-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesIdeal_finite [hPre_finite : Cert.Pre_finite.Facts] (m : (ℓ : Loc Cert.ScalesIdeal.nD Cert.ScalesIdeal.τ Cert.ScalesIdeal.sig) → Buf (Elt Ideal) ℓ) : Prop :=
  ∀ c : Dev Cert.ScalesIdeal.nD,
    (Cert.Pre_finite.fn (F := Ideal) (m ((c.tc : Thread Cert.ScalesIdeal.nD Cert.ScalesIdeal.τ).loc Cert.ScalesIdeal.main_arg0)) (m ((c.tc : Thread Cert.ScalesIdeal.nD Cert.ScalesIdeal.τ).loc Cert.ScalesIdeal.main_arg1)) (m ((c.tc : Thread Cert.ScalesIdeal.nD Cert.ScalesIdeal.τ).loc Cert.ScalesIdeal.main_arg2))) = (fun _ => 1#1)

def Pre_ScalesReferenceIdeal (m : (ℓ : Loc Cert.ScalesReferenceIdeal.nD Cert.ScalesReferenceIdeal.τ Cert.ScalesReferenceIdeal.sig) → Buf (Elt Ideal) ℓ) : Prop :=
  True

def Pre_ScalesReferenceIdeal_finite [hPre_finite : Cert.Pre_finite.Facts] (m : (ℓ : Loc Cert.ScalesReferenceIdeal.nD Cert.ScalesReferenceIdeal.τ Cert.ScalesReferenceIdeal.sig) → Buf (Elt Ideal) ℓ) : Prop :=
  ∀ c : Dev Cert.ScalesReferenceIdeal.nD,
    (Cert.Pre_finite.fn (F := Ideal) (m ((c.tc : Thread Cert.ScalesReferenceIdeal.nD Cert.ScalesReferenceIdeal.τ).loc Cert.ScalesReferenceIdeal.main_arg0)) (m ((c.tc : Thread Cert.ScalesReferenceIdeal.nD Cert.ScalesReferenceIdeal.τ).loc Cert.ScalesReferenceIdeal.main_arg1)) (m ((c.tc : Thread Cert.ScalesReferenceIdeal.nD Cert.ScalesReferenceIdeal.τ).loc Cert.ScalesReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesIdeal_pre_finite [hScalesIdeal : Cert.ScalesIdeal.Facts] [hPre_finite : Cert.Pre_finite.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal_finite m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def quiescent_ScalesReferenceIdeal_pre_finite [hScalesReferenceIdeal : Cert.ScalesReferenceIdeal.Facts] [hPre_finite : Cert.Pre_finite.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal_finite m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Scales_ScalesIdeal : Prop :=
  True

def algebraic_ScalesIdeal_ScalesReferenceIdeal_pre_finite [hScalesIdeal : Cert.ScalesIdeal.Facts] [hScalesReferenceIdeal : Cert.ScalesReferenceIdeal.Facts] [hPre_finite : Cert.Pre_finite.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal_finite m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)) →
    ∃ (v0 : (c : Dev Cert.ScalesIdeal.nD) → Buf (Elt Ideal) ((c.tc : Thread Cert.ScalesIdeal.nD Cert.ScalesIdeal.τ).loc Cert.ScalesIdeal.main_v3)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v3) = v0 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v3) = v0 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ScalesIdeal (hScalesIdeal := hScalesIdeal)
    ∧ quiescent_ScalesIdeal_pre_finite (hScalesIdeal := hScalesIdeal) (hPre_finite := hPre_finite)
    ∧ quiescent_ScalesReferenceIdeal (hScalesReferenceIdeal := hScalesReferenceIdeal)
    ∧ quiescent_ScalesReferenceIdeal_pre_finite (hScalesReferenceIdeal := hScalesReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Scales_ScalesIdeal
    ∧ algebraic_ScalesIdeal_ScalesReferenceIdeal_pre_finite (hScalesIdeal := hScalesIdeal) (hScalesReferenceIdeal := hScalesReferenceIdeal) (hPre_finite := hPre_finite)
-- ==== Pre_finite.lean ====
abbrev S24x1024x1152 : Shape := ⟨3, ![24, 1024, 1152]⟩
abbrev S1152 : Shape := ⟨1, ![1152]⟩
abbrev S24x1024x4608 : Shape := ⟨3, ![24, 1024, 4608]⟩
abbrev S_ : Shape := ⟨0, ![]⟩

class Facts : Prop where
  bcast_S_S1152 : S_.BroadcastsInDim S1152 (![] : Fin 0 → Fin S1152.rank)
  reducesTo_S1152_S_d0 : S1152.ReducesTo [0] S_
  h_S_ : 0 < S_.numel
  bitsLt_bf16_f32 : FTy.bits .bf16 < FTy.bits .f32
  bcast_S_S24x1024x4608 : S_.BroadcastsInDim S24x1024x4608 (![] : Fin 0 → Fin S24x1024x4608.rank)
  reducesTo_S24x1024x4608_S_d0_1_2 : S24x1024x4608.ReducesTo [0, 1, 2] S_

variable [Facts]

def fn {F : FTy → Type} [FloatOps F] (main_arg0 : FVec F S24x1024x1152 .bf16) (main_arg1 : FVec F S1152 .f32) (main_arg2 : FVec F S24x1024x4608 .bf16) : IVec S_ 1 :=
  let main_v0 : FVec F S1152 .f32 := Host.absf main_arg1
  let main_cst : FVec F S_ .f32 := constant S_ .f32 0x7F7FFFFF#32
  let main_v1 : FVec F S1152 .f32 := broadcastInDim S1152 ![] bcast_S_S1152 main_cst
  let main_v2 : IVec S1152 1 := cmpf .ole main_v0 main_v1
  let main_c : IVec S_ 1 := constantI S_ 1 1#1
  let main_v3 : IVec S_ 1 := (fun x v => Host.reduce IntOp.andi x v reducesTo_S1152_S_d0 h_S_) main_v2 main_c
  let main_v4 : FVec F S24x1024x4608 .f32 := (extf .f32 · bitsLt_bf16_f32) main_arg2
  let main_v5 : FVec F S24x1024x4608 .f32 := Host.absf main_v4
  let main_cst_0 : FVec F S_ .f32 := constant S_ .f32 0x7F7FFFFF#32
  let main_v6 : FVec F S24x1024x4608 .f32 := broadcastInDim S24x1024x4608 ![] bcast_S_S24x1024x4608 main_cst_0
  let main_v7 : IVec S24x1024x4608 1 := cmpf .ole main_v5 main_v6
  let main_c_1 : IVec S_ 1 := constantI S_ 1 1#1
  let main_v8 : IVec S_ 1 := (fun x v => Host.reduce IntOp.andi x v reducesTo_S24x1024x4608_S_d0_1_2 h_S_) main_v7 main_c_1
  let main_v9 : IVec S_ 1 := andi main_v3 main_v8
  main_v9
-- ==== Kernel.lean ====
abbrev S8x128 : Shape := ⟨2, ![8, 128]⟩
abbrev S24x1024x1152 : Shape := ⟨3, ![24, 1024, 1152]⟩
abbrev S1152 : Shape := ⟨1, ![1152]⟩
abbrev S1152x4608 : Shape := ⟨2, ![1152, 4608]⟩
abbrev S1 : Shape := ⟨1, ![1]⟩
abbrev S24x1024x4608 : Shape := ⟨3, ![24, 1024, 4608]⟩
abbrev S24576x1152 : Shape := ⟨2, ![24576, 1152]⟩
abbrev S24576x4608 : Shape := ⟨2, ![24576, 4608]⟩
abbrev S1x1152 : Shape := ⟨2, ![1, 1152]⟩
abbrev S512x1152 : Shape := ⟨2, ![512, 1152]⟩
abbrev S512x4608 : Shape := ⟨2, ![512, 4608]⟩
abbrev S1x1 : Shape := ⟨2, ![1, 1]⟩
abbrev S512 : Shape := ⟨1, ![512]⟩
abbrev S512x1 : Shape := ⟨2, ![512, 1]⟩

abbrev nBuf : Space → Nat
  | .hbm => 14
  | .vmem => 15
  | .smem => 1
  | _ => 0

abbrev bufTy : (tb : Table) → Fin (tcTables nBuf tb) → BufTy
  | .hbm, ⟨0, _⟩ => ⟨S8x128, .f32⟩
  | .hbm, ⟨1, _⟩ => ⟨S24x1024x1152, .bf16⟩
  | .hbm, ⟨2, _⟩ => ⟨S1152, .f32⟩
  | .hbm, ⟨3, _⟩ => ⟨S1152x4608, .fp8e4m3⟩
  | .hbm, ⟨4, _⟩ => ⟨S1, .f32⟩
  | .hbm, ⟨5, _⟩ => ⟨S24x1024x4608, .bf16⟩
  | .hbm, ⟨6, _⟩ => ⟨S24576x1152, .bf16⟩
  | .hbm, ⟨7, _⟩ => ⟨S24576x4608, .bf16⟩
  | .hbm, ⟨8, _⟩ => ⟨S1x1152, .f32⟩
  | .hbm, ⟨9, _⟩ => ⟨S24576x1152, .bf16⟩
  | .hbm, ⟨10, _⟩ => ⟨S1152x4608, .f32⟩
  | .hbm, ⟨11, _⟩ => ⟨S1x1152, .f32⟩
  | .hbm, ⟨12, _⟩ => ⟨S24576x1152, .fp8e4m3⟩
  | .hbm, ⟨13, _⟩ => ⟨S24576x4608, .fp8e5m2⟩
  | .local _ .vmem, ⟨0, _⟩ => ⟨S8x128, .f32⟩
  | .local _ .vmem, ⟨1, _⟩ => ⟨S512x1152, .bf16⟩
  | .local _ .vmem, ⟨2, _⟩ => ⟨S512x1152, .bf16⟩
  | .local _ .vmem, ⟨3, _⟩ => ⟨S1x1152, .f32⟩
  | .local _ .vmem, ⟨4, _⟩ => ⟨S1152x4608, .fp8e4m3⟩
  | .local _ .vmem, ⟨5, _⟩ => ⟨S512x4608, .bf16⟩
  | .local _ .vmem, ⟨6, _⟩ => ⟨S512x4608, .bf16⟩
  | .local _ .vmem, ⟨7, _⟩ => ⟨S512x1152, .bf16⟩
  | .local _ .vmem, ⟨8, _⟩ => ⟨S512x1152, .bf16⟩
  | .local _ .vmem, ⟨9, _⟩ => ⟨S1152x4608, .f32⟩
  | .local _ .vmem, ⟨10, _⟩ => ⟨S1x1152, .f32⟩
  | .local _ .vmem, ⟨11, _⟩ => ⟨S512x1152, .fp8e4m3⟩
  | .local _ .vmem, ⟨12, _⟩ => ⟨S512x1152, .fp8e4m3⟩
  | .local _ .vmem, ⟨13, _⟩ => ⟨S512x4608, .fp8e5m2⟩
  | .local _ .vmem, ⟨14, _⟩ => ⟨S512x4608, .fp8e5m2⟩
  | .local _ .smem, ⟨0, _⟩ => ⟨S1, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1152x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4608 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x128 : Shape := ⟨2, ![8, 128]⟩
abbrev S24x1024x1152 : Shape := ⟨3, ![24, 1024, 1152]⟩
abbrev S1152 : Shape := ⟨1, ![1152]⟩
abbrev S1152x4608 : Shape := ⟨2, ![1152, 4608]⟩
abbrev S1 : Shape := ⟨1, ![1]⟩
abbrev S24x1024x4608 : Shape := ⟨3, ![24, 1024, 4608]⟩
abbrev S24576x1152 : Shape := ⟨2, ![24576, 1152]⟩
abbrev S1x1152 : Shape := ⟨2, ![1, 1152]⟩
abbrev S1x1 : Shape := ⟨2, ![1, 1]⟩
abbrev S24576x4608 : Shape := ⟨2, ![24576, 4608]⟩
abbrev S24576 : Shape := ⟨1, ![24576]⟩
abbrev S24576x1 : Shape := ⟨2, ![24576, 1]⟩

abbrev nBuf : Space → Nat
  | .hbm => 15
  | .vmem => 11
  | .smem => 0
  | _ => 0

abbrev bufTy : (tb : Table) → Fin (tcTables nBuf tb) → BufTy
  | .hbm, ⟨0, _⟩ => ⟨S8x128, .f32⟩
  | .hbm, ⟨1, _⟩ => ⟨S24x1024x1152, .bf16⟩
  | .hbm, ⟨2, _⟩ => ⟨S1152, .f32⟩
  | .hbm, ⟨3, _⟩ => ⟨S1152x4608, .fp8e4m3⟩
  | .hbm, ⟨4, _⟩ => ⟨S1, .f32⟩
  | .hbm, ⟨5, _⟩ => ⟨S24x1024x4608, .bf16⟩
  | .hbm, ⟨6, _⟩ => ⟨S24576x1152, .bf16⟩
  | .hbm, ⟨7, _⟩ => ⟨S1x1152, .f32⟩
  | .hbm, ⟨8, _⟩ => ⟨S1x1, .f32⟩
  | .hbm, ⟨9, _⟩ => ⟨S24576x4608, .bf16⟩
  | .hbm, ⟨10, _⟩ => ⟨S24576x1152, .bf16⟩
  | .hbm, ⟨11, _⟩ => ⟨S1152x4608, .f32⟩
  | .hbm, ⟨12, _⟩ => ⟨S1x1152, .f32⟩
  | .hbm, ⟨13, _⟩ => ⟨S24576x1152, .fp8e4m3⟩
  | .hbm, ⟨14, _⟩ => ⟨S24576x4608, .fp8e5m2⟩
  | .local _ .vmem, ⟨0, _⟩ => ⟨S8x128, .f32⟩
  | .local _ .vmem, ⟨1, _⟩ => ⟨S24576x1152, .bf16⟩
  | .local _ .vmem, ⟨2, _⟩ => ⟨S1x1152, .f32⟩
  | .local _ .vmem, ⟨3, _⟩ => ⟨S1152x4608, .fp8e4m3⟩
  | .local _ .vmem, ⟨4, _⟩ => ⟨S1x1, .f32⟩
  | .local _ .vmem, ⟨5, _⟩ => ⟨S24576x4608, .bf16⟩
  | .local _ .vmem, ⟨6, _⟩ => ⟨S24576x1152, .bf16⟩
  | .local _ .vmem, ⟨7, _⟩ => ⟨S1152x4608, .f32⟩
  | .local _ .vmem, ⟨8, _⟩ => ⟨S1x1152, .f32⟩
  | .local _ .vmem, ⟨9, _⟩ => ⟨S24576x1152, .fp8e4m3⟩
  | .local _ .vmem, ⟨10, _⟩ => ⟨S24576x4608, .fp8e5m2⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x1152 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x4608 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Scales.lean ====
abbrev S24x1024x1152 : Shape := ⟨3, ![24, 1024, 1152]⟩
abbrev S1152 : Shape := ⟨1, ![1152]⟩
abbrev S24x1024x4608 : Shape := ⟨3, ![24, 1024, 4608]⟩
abbrev S24576x1152 : Shape := ⟨2, ![24576, 1152]⟩
abbrev S24576x4608 : Shape := ⟨2, ![24576, 4608]⟩
abbrev S1x1152 : Shape := ⟨2, ![1, 1152]⟩
abbrev S8x128 : Shape := ⟨2, ![8, 128]⟩
abbrev S1024x1152 : Shape := ⟨2, ![1024, 1152]⟩
abbrev S1024x4608 : Shape := ⟨2, ![1024, 4608]⟩
abbrev S8x1152 : Shape := ⟨2, ![8, 1152]⟩
abbrev S16x4608 : Shape := ⟨2, ![16, 4608]⟩
abbrev S1024 : Shape := ⟨1, ![1024]⟩
abbrev S1024x1 : Shape := ⟨2, ![1024, 1]⟩
abbrev S128x8x1152 : Shape := ⟨3, ![128, 8, 1152]⟩
abbrev S64x16x4608 : Shape := ⟨3, ![64, 16, 4608]⟩
abbrev S1 : Shape := ⟨1, ![1]⟩
abbrev S1x1 : Shape := ⟨2, ![1, 1]⟩
abbrev S4608 : Shape := ⟨1, ![4608]⟩
abbrev S1x4608 : Shape := ⟨2, ![1, 4608]⟩

abbrev nBuf : Space → Nat
  | .hbm => 7
  | .vmem => 8
  | .smem => 0
  | _ => 0

abbrev bufTy : (tb : Table) → Fin (tcTables nBuf tb) → BufTy
  | .hbm, ⟨0, _⟩ => ⟨S24x1024x1152, .bf16⟩
  | .hbm, ⟨1, _⟩ => ⟨S1152, .f32⟩
  | .hbm, ⟨2, _⟩ => ⟨S24x1024x4608, .bf16⟩
  | .hbm, ⟨3, _⟩ => ⟨S24576x1152, .bf16⟩
  | .hbm, ⟨4, _⟩ => ⟨S24576x4608, .bf16⟩
  | .hbm, ⟨5, _⟩ => ⟨S1x1152, .f32⟩
  | .hbm, ⟨6, _⟩ => ⟨S8x128, .f32⟩
  | .local _ .vmem, ⟨0, _⟩ => ⟨S1024x1152, .bf16⟩
  | .local _ .vmem, ⟨1, _⟩ => ⟨S1024x1152, .bf16⟩
  | .local _ .vmem, ⟨2, _⟩ => ⟨S1x1152, .f32⟩
  | .local _ .vmem, ⟨3, _⟩ => ⟨S1024x4608, .bf16⟩
  | .local _ .vmem, ⟨4, _⟩ => ⟨S1024x4608, .bf16⟩
  | .local _ .vmem, ⟨5, _⟩ => ⟨S8x128, .f32⟩
  | .local _ .vmem, ⟨6, _⟩ => ⟨S8x1152, .f32⟩
  | .local _ .vmem, ⟨7, _⟩ => ⟨S16x4608, .bf16⟩
  | _, _ => ⟨S24x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v38 : BitVec 1 := Scalar.cmpi .eq arg0 c23_i32
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ScalesReferenceIdeal.lean ====
abbrev S24x1024x1152 : Shape := ⟨3, ![24, 1024, 1152]⟩
abbrev S1152 : Shape := ⟨1, ![1152]⟩
abbrev S24x1024x4608 : Shape := ⟨3, ![24, 1024, 4608]⟩
abbrev S24576x1152 : Shape := ⟨2, ![24576, 1152]⟩
abbrev S1x1152 : Shape := ⟨2, ![1, 1152]⟩
abbrev S24576x4608 : Shape := ⟨2, ![24576, 4608]⟩
abbrev S8x128 : Shape := ⟨2, ![8, 128]⟩
abbrev S24576 : Shape := ⟨1, ![24576]⟩
abbrev S24576x1 : Shape := ⟨2, ![24576, 1]⟩
abbrev S1x24576x1152 : Shape := ⟨3, ![1, 24576, 1152]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S1x24576x4608 : Shape := ⟨3, ![1, 24576, 4608]⟩

abbrev nBuf : Space → Nat
  | .hbm => 7
  | .vmem => 4
  | .smem => 0
  | _ => 0

abbrev bufTy : (tb : Table) → Fin (tcTables nBuf tb) → BufTy
  | .hbm, ⟨0, _⟩ => ⟨S24x1024x1152, .bf16⟩
  | .hbm, ⟨1, _⟩ => ⟨S1152, .f32⟩
  | .hbm, ⟨2, _⟩ => ⟨S24x1024x4608, .bf16⟩
  | .hbm, ⟨3, _⟩ => ⟨S24576x1152, .bf16⟩
  | .hbm, ⟨4, _⟩ => ⟨S1x1152, .f32⟩
  | .hbm, ⟨5, _⟩ => ⟨S24576x4608, .bf16⟩
  | .hbm, ⟨6, _⟩ => ⟨S8x128, .f32⟩
  | .local _ .vmem, ⟨0, _⟩ => ⟨S24576x1152, .bf16⟩
  | .local _ .vmem, ⟨1, _⟩ => ⟨S1x1152, .f32⟩
  | .local _ .vmem, ⟨2, _⟩ => ⟨S24576x4608, .bf16⟩
  | .local _ .vmem, ⟨3, _⟩ => ⟨S8x128, .f32⟩
  | _, _ => ⟨S24x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24576x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/- What the backward pass of rmsnorm followed by a linear layer on per-tensor fp8 codes computes, written once over the
   extended reals, with no program in it. Both programs are shown to end at these functions. -/
module

public import Idealize.ShloMosaic.Lib.Pointwise
public import Idealize.ShloMosaic.Lib.IdealHost

@[expose] public section

noncomputable section

namespace Cert.Spec

open Idealize.ShloMosaic

/-- The inputs: the two per-tensor scales and the two quantiser factors of the normalised rows and of the output
    gradient, the scale of the weight codes, the rows `X`, the gain `G`, the weight codes `W`, the output gradient `DY`. -/
structure Ins where
  sXn : EReal
  sDy : EReal
  qXn : EReal
  qDy : EReal
  sW : EReal
  X : Fin 24576 → Fin 1152 → EReal
  G : Fin 1152 → EReal
  W : Fin 1152 → Fin 4608 → EReal
  DY : Fin 24576 → Fin 4608 → EReal

/-- The model width as the programs write it. -/
abbrev width : EReal := Ideal.ofBits .f32 0x44900000#32

namespace Ins

variable (I : Ins)

/-- The reciprocal root mean square of row `q`. -/
def r (q : Fin 24576) : EReal :=
  Ideal.rsqrt (Ideal.div (∑ k, I.X q k * I.X q k) width + Ideal.ofBits .f32 0x358637BD#32)

/-- The normalised row before the gain. -/
def xhat (q : Fin 24576) (j : Fin 1152) : EReal := I.X q j * I.r q

/-- The code of the normalised row: scaled and clipped to the range of e4m3. -/
def xcode (q : Fin 24576) (j : Fin 1152) : EReal :=
  min (Ideal.ofBits .f32 0x43E00000#32) (max (Ideal.ofBits .f32 0xC3E00000#32) (I.xhat q j * I.G j * I.qXn))

/-- The code of the output gradient: scaled and clipped to the range of e5m2. -/
def ycode (q : Fin 24576) (o : Fin 4608) : EReal :=
  min (Ideal.ofBits .f32 0x47600000#32) (max (Ideal.ofBits .f32 0xC7600000#32) (I.DY q o * I.qDy))

/-- The gradient at the normalised rows after the gain. -/
def dxn (q : Fin 24576) (j : Fin 1152) : EReal := (∑ o, I.ycode q o * I.W j o) * (I.sDy * I.sW)

/-- The gradient at the rows. -/
def dx (q : Fin 24576) (j : Fin 1152) : EReal :=
  I.r q * (I.dxn q j * I.G j - I.xhat q j * Ideal.div (∑ k, I.dxn q k * I.G k * I.xhat q k) width)

/-- The gradient at the gain. -/
def dgamma (j : Fin 1152) : EReal := ∑ q, I.dxn q j * I.xhat q j

/-- The gradient at the weight. -/
def dw (i : Fin 1152) (o : Fin 4608) : EReal := (∑ q, I.xcode q i * I.ycode q o) * (I.sXn * I.sDy)

end Ins

/-- The lower end of the range of e5m2, written in bf16 and in f32. -/
theorem lo_eq : Ideal.ofBits .bf16 0xC760#16 = Ideal.ofBits .f32 0xC7600000#32 := by
  simp [Ideal.ofBits, Ideal.ieee, -EReal.coe_mul]
  norm_num

/-- The upper end of the range of e5m2, written in bf16 and in f32. -/
theorem hi_eq : Ideal.ofBits .bf16 0x4760#16 = Ideal.ofBits .f32 0x47600000#32 := by
  simp [Ideal.ofBits, Ideal.ieee, -EReal.coe_mul]
  norm_num

end Cert.Spec

end
-- ==== Proof.KernelPoint.lean ====
/- What one grid point of the kernel computes from its blocks, element by element, in the words of Spec.lean. The blocks
   are vectors of which only the entries that the element depends on are assumed known. -/
module

public import proofs.«01_k».proof.Proof.Spec
public import proofs.«01_k».proof.Proof.Gen.KernelIdeal.Skeleton

@[expose] public section

set_option maxRecDepth 16384

noncomputable section

namespace Cert.KernelIdeal.Point

open Cert.KernelIdeal Cert.KernelIdeal.Gen Idealize.ShloMosaic Cert.Spec

variable (I : Ins) (q : Fin 24576) {i : Fin 512}
variable {x : Vec Ideal S512x1152 .bf16} (hx : ∀ k, x (ix2 i k) = I.X q k)
variable {dy : Vec Ideal S512x4608 .bf16} (hdy : ∀ o, dy (ix2 i o) = I.DY q o)
variable {s0 s1 s2 s3 : Vec Ideal S1x1 .f32} (h0 : s0 (ix2 0 0) = I.sXn) (h1 : s1 (ix2 0 0) = I.sDy)
  (h2 : s2 (ix2 0 0) = I.qXn) (h3 : s3 (ix2 0 0) = I.qDy)
variable {g : Vec Ideal S1x1152 .f32} (hg : ∀ j, g (ix2 0 j) = I.G j)
variable {w : Vec Ideal S1152x4608 .fp8e4m3} (hw : ∀ j o, w (ix2 j o) = I.W j o)
variable {ws : Elt Ideal .f32} (hws : ws = I.sW)

include hx in
/-- The reciprocal root mean square of the row. -/
theorem r_eq : k0_pay5 (F := Ideal) x (ix2 i 0) = I.r q := by
  pointwise [k0_pay5, k0_pay4, Ins.r]
  simp only [hx]

include hx in
/-- The normalised row. -/
theorem xhat_eq (j : Fin 1152) : k0_pay6 (F := Ideal) x (ix2 i j) = I.xhat q j := by
  rw [Ins.xhat, ← r_eq I q hx, ← hx]
  pointwise [k0_pay6, k0_pay4]

include hx h2 hg in
/-- The code of the normalised row. -/
theorem xcode_eq (j : Fin 1152) : k0_pay7 (F := Ideal) s2 g x (ix2 i j) = I.xcode q j := by
  rw [Ins.xcode, ← xhat_eq I q hx, ← hg, ← h2]
  pointwise [k0_pay7, k0_pay3]

/-- The codes of the block of output gradients, as the grid point computes them. -/
abbrev codes (s3 : Vec Ideal S1x1 .f32) (dy : Vec Ideal S512x4608 .bf16) : FVec Ideal S512x4608 .fp8e5m2 :=
  k0_pay10 (k0_pay8 s3 dy) (FloatOps.ofBits FTy.bf16 0x4760#16) k0_pay9

include hdy h3 in
/-- The code of the output gradient. -/
theorem ycode_eq (o : Fin 4608) : codes s3 dy (ix2 i o) = I.ycode q o := by
  rw [Ins.ycode, ← hdy, ← h3, ← lo_eq, ← hi_eq]
  pointwise [codes, k0_pay8, k0_pay9, k0_pay10]

include hdy h3 h1 hw hws in
/-- The gradient at the normalised row after the gain. -/
theorem dxn_eq (j : Fin 1152) : k0_pay11 (F := Ideal) s1 (codes s3 dy) w ws (ix2 i j) = I.dxn q j := by
  rw [Ins.dxn, ← h1, ← hws]
  simp only [← hw, ← ycode_eq I q hdy h3]
  pointwise [k0_pay11]

include hx hdy h3 h1 hw hws hg in
/-- The gradient at the row. -/
theorem dx_eq (j : Fin 1152) :
    k0_pay12 (F := Ideal) s1 (k0_pay3 g) (k0_pay5 x) (k0_pay6 x) (codes s3 dy) w ws (ix2 i j) = I.dx q j := by
  rw [Ins.dx]
  simp only [← hg, ← xhat_eq I q hx, ← r_eq I q hx, ← dxn_eq I q hdy h1 h3 hw hws]
  pointwise [k0_pay12, k0_pay3]

include h0 h1 in
/-- The last grid point multiplies the gradient at the weight by the two scales. -/
theorem scaled_eq (z : Vec Ideal S1152x4608 .f32) (j : Fin 1152) (o : Fin 4608) :
    k0_pay2 (F := Ideal) s0 s1 z (ix2 j o) = z (ix2 j o) * (I.sXn * I.sDy) := by
  rw [← h0, ← h1]
  pointwise [k0_pay2]

section Sums

variable (row : Fin 512 → Fin 24576)
variable (hxs : ∀ i k, x (ix2 i k) = I.X (row i) k) (hdys : ∀ i o, dy (ix2 i o) = I.DY (row i) o)

include hxs hdys h3 h1 hw hws in
/-- One grid point adds to the gradient at the gain the sum over the rows of its block. -/
theorem dgamma_step (z : Vec Ideal S1x1152 .f32) (j : Fin 1152) :
    k0_pay15 (F := Ideal) s1 (k0_pay6 x) (codes s3 dy) w ws z (ix2 0 j)
      = z (ix2 0 j) + ∑ i, I.dxn (row i) j * I.xhat (row i) j := by
  simp only [← xhat_eq I _ (hxs _), ← dxn_eq I _ (hdys _) h1 h3 hw hws]
  pointwise [k0_pay15]

include hxs hdys h2 h3 hg in
/-- One grid point adds to the gradient at the weight the product of the two blocks of codes. -/
theorem dw_step (z : Vec Ideal S1152x4608 .f32) (j : Fin 1152) (o : Fin 4608) :
    k0_pay1 (F := Ideal) z (k0_pay7 s2 g x) (codes s3 dy) (ix2 j o)
      = z (ix2 j o) + ∑ i, I.xcode (row i) j * I.ycode (row i) o := by
  simp only [← xcode_eq I _ (hxs _) h2 hg, ← ycode_eq I _ (hdys _) h3]
  pointwise [k0_pay1]

end Sums

end Cert.KernelIdeal.Point

end
-- ==== Proof.KernelValue.lean ====
/- The five arrays the kernel leaves: blocks of 512 rows put together for the gradient at the rows and the two arrays of
   codes, sums over the 48 grid points for the gradients at the weight and at the gain. -/
module

public import proofs.«01_k».proof.Proof.KernelPoint
public import proofs.«01_k».proof.Proof.Gen.KernelIdeal.Value
public import Idealize.ShloMosaic.Lib.Pipeline.ValueKit

@[expose] public section

set_option maxRecDepth 16384

noncomputable section

namespace Cert.KernelIdeal.Arrays

open Cert.KernelIdeal Cert.KernelIdeal.Gen Idealize.ShloMosaic Idealize.ShloMosaic.TcCoe Idealize.SL.Sem Cert.Spec
open Idealize.ShloMosaic.Pipeline (Dat)

variable (m : (ℓ : Loc nD τ sig) → Buf (Elt Ideal) ℓ) (c : Dev nD)

/-! ## Which part of its array each block is -/

theorem idx0 : ∀ t : Fin grid0.N, win0_0.index t = ![0, 0] := by decide +kernel
theorem idx1 : ∀ t : Fin grid0.N, win0_1.index t = ![0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx9 : ∀ t : Fin grid0.N, win0_9.index t = ![t.val, 0] := by decide +kernel
theorem idx10 : ∀ t : Fin grid0.N, win0_10.index t = ![t.val, 0] := by decide +kernel

theorem row_lt (t : Fin cfg0.N) (i : Fin 512) : t.val * 512 + i.val < 24576 := by
  have := t.isLt
  have h : cfg0.N = 48 := N_0
  have := i.isLt
  omega

/-- The array row that row `i` of block `t` is. -/
def row (t : Fin cfg0.N) (i : Fin 512) : Fin 24576 := ⟨t.val * 512 + i.val, row_lt t i⟩

/-- The inputs the six arrays hold when the grid starts. -/
abbrev ins : Ins where
  sXn := V m c main_arg0 (ix2 0 0)
  sDy := V m c main_arg0 (ix2 1 0)
  qXn := V m c main_arg0 (ix2 2 0)
  qDy := V m c main_arg0 (ix2 3 0)
  sW := V m c main_arg4 (ix1 0)
  X := fun q k => V m c main_v0 (ix2 q k)
  G := fun j => V m c main_v2 (ix2 0 j)
  W := fun j o => V m c main_arg3 (ix2 j o)
  DY := fun q o => V m c main_v1 (ix2 q o)

theorem blk0 (t : Fin cfg0.N) (a : Fin 8) (b : Fin 128) : iblk m c 0 t (ix2 a b) = V m c main_arg0 (ix2 a b) := by
  blk_ext! [iblk, idx0 t]

theorem s0_eq (t : Fin cfg0.N) :
    View.ld (iblk m c 0 t) (Rect.unit ![0, 0] ![1, 1] inb_S8x128_S1x1_0_0) (ix2 0 0) = (ins m c).sXn := by
  refine Eq.trans ?_ (blk0 m c t _ _)
  pointwise

theorem s1_eq (t : Fin cfg0.N) :
    View.ld (iblk m c 0 t) (Rect.unit ![1, 0] ![1, 1] inb_S8x128_S1x1_1_0) (ix2 0 0) = (ins m c).sDy := by
  refine Eq.trans ?_ (blk0 m c t _ _)
  pointwise

theorem s2_eq (t : Fin cfg0.N) :
    View.ld (iblk m c 0 t) (Rect.unit ![2, 0] ![1, 1] inb_S8x128_S1x1_2_0) (ix2 0 0) = (ins m c).qXn := by
  refine Eq.trans ?_ (blk0 m c t _ _)
  pointwise

theorem s3_eq (t : Fin cfg0.N) :
    View.ld (iblk m c 0 t) (Rect.unit ![3, 0] ![1, 1] inb_S8x128_S1x1_3_0) (ix2 0 0) = (ins m c).qDy := by
  refine Eq.trans ?_ (blk0 m c t _ _)
  pointwise

theorem sw_eq (t : Fin cfg0.N) (h) :
    View.ld (iblk m c 1 t) (Rect.unit ![0] ![1] inb_S1_S1_0) (Shape.Idx.first h) = (ins m c).sW := by
  blk_ext! [iblk, idx1 t]

theorem x_eq (t : Fin cfg0.N) (i : Fin 512) (k : Fin 1152) : iblk m c 2 t (ix2 i k) = (ins m c).X (row t i) k := by
  unfold row
  blk_ext! [iblk, idx2 t]

theorem g_eq (t : Fin cfg0.N) (j : Fin 1152) : iblk m c 3 t (ix2 0 j) = (ins m c).G j := by
  blk_ext! [iblk, idx3 t]

theorem w_eq (t : Fin cfg0.N) (j : Fin 1152) (o : Fin 4608) : iblk m c 4 t (ix2 j o) = (ins m c).W j o := by
  blk_ext! [iblk, idx4 t]

theorem dy_eq (t : Fin cfg0.N) (i : Fin 512) (o : Fin 4608) : iblk m c 5 t (ix2 i o) = (ins m c).DY (row t i) o := by
  unfold row
  blk_ext! [iblk, idx5 t]

/-! ## What a grid point leaves for the outputs it alone writes -/

/-- The case of a grid point: the first, the last, or one between. -/
theorem cases (t : Fin cfg0.N) :
    (t.val % 48 = 0 ∧ ¬t.val % 48 = 47) ∨ (¬t.val % 48 = 0 ∧ ¬t.val % 48 = 47) ∨ (¬t.val % 48 = 0 ∧ t.val % 48 = 47) := by
  omega

theorem out6 (t : Fin cfg0.N) (i : Fin 512) (j : Fin 1152) :
    (outsAt0 m c t.val t.isLt).1 (ix2 i j) = (ins m c).dx (row t i) j := by
  rcases cases t with ⟨h0, h1⟩ | ⟨h0, h1⟩ | ⟨h0, h1⟩
  · rw [outsAt0_A m c t h0 h1]
    frame_out
    exact Point.dx_eq _ _ (x_eq m c t i) (dy_eq m c t i) (s1_eq m c t) (s3_eq m c t) (g_eq m c t) (w_eq m c t) (sw_eq m c t _) j
  · rw [outsAt0_B m c t h0 h1]
    frame_out
    exact Point.dx_eq _ _ (x_eq m c t i) (dy_eq m c t i) (s1_eq m c t) (s3_eq m c t) (g_eq m c t) (w_eq m c t) (sw_eq m c t _) j
  · rw [outsAt0_C m c t h0 h1]
    frame_out
    exact Point.dx_eq _ _ (x_eq m c t i) (dy_eq m c t i) (s1_eq m c t) (s3_eq m c t) (g_eq m c t) (w_eq m c t) (sw_eq m c t _) j

theorem out9 (t : Fin cfg0.N) (i : Fin 512) (j : Fin 1152) :
    (outsAt0 m c t.val t.isLt).2.2.2.1 (ix2 i j) = (ins m c).xcode (row t i) j := by
  rcases cases t with ⟨h0, h1⟩ | ⟨h0, h1⟩ | ⟨h0, h1⟩
  · rw [outsAt0_A m c t h0 h1]
    frame_out
    exact Point.xcode_eq _ _ (x_eq m c t i) (s2_eq m c t) (g_eq m c t) j
  · rw [outsAt0_B m c t h0 h1]
    frame_out
    exact Point.xcode_eq _ _ (x_eq m c t i) (s2_eq m c t) (g_eq m c t) j
  · rw [outsAt0_C m c t h0 h1]
    frame_out
    exact Point.xcode_eq _ _ (x_eq m c t i) (s2_eq m c t) (g_eq m c t) j

theorem out10 (t : Fin cfg0.N) (i : Fin 512) (o : Fin 4608) :
    (outsAt0 m c t.val t.isLt).2.2.2.2 (ix2 i o) = (ins m c).ycode (row t i) o := by
  rcases cases t with ⟨h0, h1⟩ | ⟨h0, h1⟩ | ⟨h0, h1⟩
  · rw [outsAt0_A m c t h0 h1]
    frame_out
    exact Point.ycode_eq _ _ (dy_eq m c t i) (s3_eq m c t) o
  · rw [outsAt0_B m c t h0 h1]
    frame_out
    exact Point.ycode_eq _ _ (dy_eq m c t i) (s3_eq m c t) o
  · rw [outsAt0_C m c t h0 h1]
    frame_out
    exact Point.ycode_eq _ _ (dy_eq m c t i) (s3_eq m c t) o

/-! ## The outputs added up over the grid -/

/-- What grid point `n` adds to an output whose array row `q` contributes `f q`: the sum over the rows of its block. -/
def term (f : Fin 24576 → EReal) (n : ℕ) : EReal := if h : n < cfg0.N then ∑ i, f (row ⟨n, h⟩ i) else 0

theorem term_eq (f : Fin 24576 → EReal) (t : Fin cfg0.N) : term f t.val = ∑ i, f (row t i) := dif_pos t.isLt

/-- The sum of what all the grid points add is the sum over all the array's rows. -/
theorem sum_term (f : Fin 24576 → EReal) : ∑ n ∈ Finset.range 48, term f n = ∑ q, f q := by
  rw [Finset.sum_range]
  refine Eq.trans (Finset.sum_congr rfl fun n _ => ?_)
    (Fin.sum_mul_add_congr (S := 48) (n := 512) (F := fun n i => f (row ⟨n.val, by rw [show cfg0.N = 48 from N_0]; exact n.isLt⟩ i)) (f := f) ?_)
  · exact dif_pos _
  · intro n i h
    rfl

/-- The point before `t` is a point. -/
theorem pred_lt (t : Fin cfg0.N) : t.val - 1 < cfg0.N := Nat.lt_of_le_of_lt (Nat.sub_le _ _) t.isLt

/-- The first point leaves the gradient at the gain at what it adds to zero. -/
theorem dgamma_first (t : Fin cfg0.N) (h0 : t.val % 48 = 0) (j : Fin 1152) :
    (outsAt0 m c t.val t.isLt).2.2.1 (ix2 0 j)
      = 0 + term (fun q => (ins m c).dxn q j * (ins m c).xhat q j) t.val := by
  rw [outsAt0_A m c t h0 (by omega), term_eq]
  frame_out
  refine (Point.dgamma_step _ (s1_eq m c t) (s3_eq m c t) (w_eq m c t) (sw_eq m c t _) (row t) (x_eq m c t) (dy_eq m c t) _ j).trans ?_
  pointwise [k0_pay14]

/-- Every other point adds to what the point before left. -/
theorem dgamma_next (t : Fin cfg0.N) (h0 : ¬t.val % 48 = 0) (j : Fin 1152) :
    (outsAt0 m c t.val t.isLt).2.2.1 (ix2 0 j)
      = (outsAt0 m c (t.val - 1) (pred_lt t)).2.2.1 (ix2 0 j)
        + term (fun q => (ins m c).dxn q j * (ins m c).xhat q j) t.val := by
  rw [term_eq]
  by_cases h1 : t.val % 48 = 47
  · rw [outsAt0_C m c t h0 h1]
    frame_out
    exact Point.dgamma_step _ (s1_eq m c t) (s3_eq m c t) (w_eq m c t) (sw_eq m c t _) (row t) (x_eq m c t) (dy_eq m c t) _ j
  · rw [outsAt0_B m c t h0 h1]
    frame_out
    exact Point.dgamma_step _ (s1_eq m c t) (s3_eq m c t) (w_eq m c t) (sw_eq m c t _) (row t) (x_eq m c t) (dy_eq m c t) _ j

/-- The last grid point. -/
abbrev last : Fin cfg0.N := ⟨47, by rw [show cfg0.N = 48 from N_0]; decide⟩

/-- After the last point the gradient at the gain is the sum over all rows. -/
theorem dgamma_last (j : Fin 1152) :
    (outsAt0 m c last.val last.isLt).2.2.1 (ix2 0 j) = (ins m c).dgamma j := by
  have h := Pipeline.eq_sum_of_reset_step_apply_single
    (fun n h (j : Fin 1152) => ((outsAt0 m c n h).2.2.1 (ix2 0 j) : EReal)) 48 (fun _ => 0)
    (fun n j => term (fun q => (ins m c).dxn q j * (ins m c).xhat q j) n)
    (dgamma_first m c) (dgamma_next m c) (by rw [show cfg0.N = 48 from N_0]) last j
  rw [h, zero_add, sum_term, Ins.dgamma]

/-- The first point leaves the gradient at the weight, not yet scaled, at what it adds to zero. -/
theorem dw_first (t : Fin cfg0.N) (h0 : t.val % 48 = 0) (j : Fin 1152) (o : Fin 4608) :
    (outsAt0 m c t.val t.isLt).2.1 (ix2 j o)
      = 0 + term (fun q => (ins m c).xcode q j * (ins m c).ycode q o) t.val := by
  rw [outsAt0_A m c t h0 (by omega), term_eq]
  frame_out
  refine (Point.dw_step _ (s2_eq m c t) (s3_eq m c t) (g_eq m c t) (row t) (x_eq m c t) (dy_eq m c t) _ j o).trans ?_
  pointwise [k0_pay13]

/-- A point between adds to what the point before left. -/
theorem dw_next (t : Fin cfg0.N) (h0 : ¬t.val % 48 = 0) (h1 : ¬t.val % 48 = 47) (j : Fin 1152) (o : Fin 4608) :
    (outsAt0 m c t.val t.isLt).2.1 (ix2 j o)
      = (outsAt0 m c (t.val - 1) (pred_lt t)).2.1 (ix2 j o)
        + term (fun q => (ins m c).xcode q j * (ins m c).ycode q o) t.val := by
  rw [outsAt0_B m c t h0 h1, term_eq]
  frame_out
  exact Point.dw_step _ (s2_eq m c t) (s3_eq m c t) (g_eq m c t) (row t) (x_eq m c t) (dy_eq m c t) _ j o

/-- The last point adds to what the point before left, and multiplies by the two scales. -/
theorem dw_scaled (t : Fin cfg0.N) (h0 : ¬t.val % 48 = 0) (h1 : t.val % 48 = 47) (j : Fin 1152) (o : Fin 4608) :
    (outsAt0 m c t.val t.isLt).2.1 (ix2 j o)
      = ((outsAt0 m c (t.val - 1) (pred_lt t)).2.1 (ix2 j o)
        + term (fun q => (ins m c).xcode q j * (ins m c).ycode q o) t.val) * ((ins m c).sXn * (ins m c).sDy) := by
  rw [outsAt0_C m c t h0 h1, term_eq]
  frame_out
  refine (Point.scaled_eq _ (s0_eq m c t) (s1_eq m c t) _ j o).trans (congrArg (· * _) ?_)
  exact Point.dw_step _ (s2_eq m c t) (s3_eq m c t) (g_eq m c t) (row t) (x_eq m c t) (dy_eq m c t) _ j o

theorem lt_of_lt_47 {n : ℕ} (h : n < 47) : n < cfg0.N := lt_trans h (by rw [show cfg0.N = 48 from N_0]; decide)

/-- Before the last point the gradient at the weight is the sum over the rows seen so far. -/
theorem dw_before (n : ℕ) (hn : n < 47) (h : n < cfg0.N) (j : Fin 1152) (o : Fin 4608) :
    (outsAt0 m c n h).2.1 (ix2 j o)
      = ∑ k ∈ Finset.range (n + 1), term (fun q => (ins m c).xcode q j * (ins m c).ycode q o) k := by
  have h := Pipeline.eq_sum_of_reset_step_apply_single (N := 47)
    (fun n h (_ : Unit) => ((outsAt0 m c n (lt_of_lt_47 h)).2.1 (ix2 j o) : EReal)) 48 (fun _ => 0)
    (fun n _ => term (fun q => (ins m c).xcode q j * (ins m c).ycode q o) n)
    (fun t h0 _ => dw_first m c ⟨t.val, lt_of_lt_47 t.isLt⟩ h0 j o)
    (fun t h0 _ => dw_next m c ⟨t.val, lt_of_lt_47 t.isLt⟩ h0 (by have := t.isLt; dsimp only; omega) j o)
    (by decide) ⟨n, hn⟩ ()
  exact h.trans (zero_add _)

/-- After the last point the gradient at the weight is the scaled sum over all rows. -/
theorem dw_last (t : Fin cfg0.N) (ht : t.val = 47) (j : Fin 1152) (o : Fin 4608) :
    (outsAt0 m c t.val t.isLt).2.1 (ix2 j o) = (ins m c).dw j o := by
  rw [dw_scaled m c t (by omega) (by omega), dw_before m c _ (by omega), Ins.dw, ← sum_term,
    show t.val - 1 + 1 = 47 by omega, ht, Finset.sum_range_succ _ 47]

/-! ## The arrays after the run -/

theorem emb6 (t : Fin cfg0.N) (i : Fin 512) (j : Fin 1152) :
    (win0_6.blk t).view.emb (ix2 i j) = (ix2 (row t i) j : S24576x1152.Idx) := by
  unfold row
  blk_ext [idx6 t]

/-- The gradient at the rows. -/
theorem arr6 : (dats m 0 c).arrAt 6 cfg0.N = fun i => (ins m c).dx (i 0) (i 1) := by
  refine (dats m 0 c).arrAt_eq_of_covers 6 _ (by decide +kernel) fun t hf y => ?_
  blk_simp
  rw [after0_6]
  idx_vars y
  rw [out6, emb6]
  rfl

theorem emb9 (t : Fin cfg0.N) (i : Fin 512) (j : Fin 1152) :
    (win0_9.blk t).view.emb (ix2 i j) = (ix2 (row t i) j : S24576x1152.Idx) := by
  unfold row
  blk_ext [idx9 t]

/-- The codes of the normalised rows. -/
theorem arr9 : (dats m 0 c).arrAt 9 cfg0.N = fun i => (ins m c).xcode (i 0) (i 1) := by
  refine (dats m 0 c).arrAt_eq_of_covers 9 _ (by decide +kernel) fun t hf y => ?_
  blk_simp
  rw [after0_9]
  idx_vars y
  rw [out9, emb9]
  rfl

theorem emb10 (t : Fin cfg0.N) (i : Fin 512) (j : Fin 4608) :
    (win0_10.blk t).view.emb (ix2 i j) = (ix2 (row t i) j : S24576x4608.Idx) := by
  unfold row
  blk_ext [idx10 t]

/-- The codes of the output gradient. -/
theorem arr10 : (dats m 0 c).arrAt 10 cfg0.N = fun i => (ins m c).ycode (i 0) (i 1) := by
  refine (dats m 0 c).arrAt_eq_of_covers 10 _ (by decide +kernel) fun t hf y => ?_
  blk_simp
  rw [after0_10]
  idx_vars y
  rw [out10, emb10]
  rfl

/-- The gradient at the weight. -/
theorem arr7 : (dats m 0 c).arrAt 7 cfg0.N = fun i => (ins m c).dw (i 0) (i 1) := by
  refine (dats m 0 c).arrAt_eq_of_after_last 7 last (by decide +kernel) _ fun j => ?_
  blk_simp
  rw [after0_7]
  refine (congrArg _ (eq_ix2 j)).trans ((dw_last m c last rfl (j 0) (j 1)).trans ?_)
  rfl

/-- The gradient at the gain. -/
theorem arr8 : (dats m 0 c).arrAt 8 cfg0.N = fun i => (ins m c).dgamma (i 1) := by
  refine (dats m 0 c).arrAt_eq_of_after_last 8 last (by decide +kernel) _ fun j => ?_
  blk_simp
  rw [after0_8]
  refine (congrArg _ ((eq_ix2 j).trans (congrArg (fun a => ix2 a (j 1)) (Subsingleton.elim (α := Fin 1) (j 0) 0)))).trans ?_
  exact dgamma_last m c (j 1)

end Cert.KernelIdeal.Arrays

end
-- ==== Proof.RefPoint.lean ====
/- What the reference's one grid point computes from the whole arrays, element by element, in the words of Spec.lean. -/
module

public import proofs.«01_k».proof.Proof.Spec
public import proofs.«01_k».proof.Proof.Gen.ReferenceIdeal.Frame

@[expose] public section

set_option maxRecDepth 16384

noncomputable section

namespace Cert.ReferenceIdeal.Point

open Cert.ReferenceIdeal Cert.ReferenceIdeal.Gen Idealize.ShloMosaic Cert.Spec

variable (x0 : Vec Ideal S8x128 .f32) (x1 : Vec Ideal S24576x1152 .bf16) (x2 : Vec Ideal S1x1152 .f32)
  (x3 : Vec Ideal S1152x4608 .fp8e4m3) (x4 : Vec Ideal S1x1 .f32) (x5 : Vec Ideal S24576x4608 .bf16)

/-- The inputs the six arrays hold. -/
abbrev ins : Ins where
  sXn := x0 (ix2 0 0)
  sDy := x0 (ix2 1 0)
  qXn := x0 (ix2 2 0)
  qDy := x0 (ix2 3 0)
  sW := x4 (ix2 0 0)
  X := fun q k => x1 (ix2 q k)
  G := fun j => x2 (ix2 0 j)
  W := fun j o => x3 (ix2 j o)
  DY := fun q o => x5 (ix2 q o)

/-- The reciprocal root mean square of a row. -/
theorem r_eq (q : Fin 24576) : k0_pay10 x1 (ix2 q 0) = (ins x0 x1 x2 x3 x4 x5).r q := by
  pointwise [k0_pay10, k0_pay9, Ins.r]

/-- The normalised row. -/
theorem xhat_eq (q : Fin 24576) (j : Fin 1152) :
    k0_pay15 x0 x1 x2 x3 x4 x5 (ix2 q j) = (ins x0 x1 x2 x3 x4 x5).xhat q j := by
  rw [Ins.xhat, ← r_eq]
  pointwise [k0_pay15, k0_pay11, k0_pay10, k0_pay9]

/-- The code of the normalised row. -/
theorem xcode_eq (q : Fin 24576) (j : Fin 1152) :
    k0_pay16 x0 x1 x2 x3 x4 x5 (ix2 q j) = (ins x0 x1 x2 x3 x4 x5).xcode q j := by
  rw [Ins.xcode, ← xhat_eq]
  pointwise [k0_pay16, k0_pay12, k0_pay8, k0_pay15]

/-- The codes of the output gradient, as the reference computes them. -/
abbrev codes : FVec Ideal S24576x4608 .fp8e5m2 :=
  k0_pay1 (FloatOps.ofBits FTy.f32 0x47600000#32) (k0_pay17 x0 x1 x2 x3 x4 x5)

/-- The code of the output gradient. -/
theorem ycode_eq (q : Fin 24576) (o : Fin 4608) :
    codes x0 x1 x2 x3 x4 x5 (ix2 q o) = (ins x0 x1 x2 x3 x4 x5).ycode q o := by
  pointwise [codes, k0_pay1, k0_pay17, k0_pay13, Ins.ycode]

/-- The gradient at the normalised row after the gain. -/
theorem dxn_eq (q : Fin 24576) (j : Fin 1152) :
    k0_pay3 (View.ld x0 r0_1) (k0_pay14 x0 x1 x2 x3 x4 x5) (FloatOps.ofBits FTy.f32 0x47600000#32)
      (k0_pay17 x0 x1 x2 x3 x4 x5) x3 (ix2 q j) = (ins x0 x1 x2 x3 x4 x5).dxn q j := by
  rw [Ins.dxn]
  simp only [← ycode_eq]
  pointwise [k0_pay3, k0_pay2, k0_pay14, k0_pay7, codes]

/-- The gradient at the row. -/
theorem dx_eq (q : Fin 24576) (j : Fin 1152) :
    k0_pay5 (View.ld x0 r0_1) (k0_pay14 x0 x1 x2 x3 x4 x5) (k0_pay8 x2) (k0_pay10 x1) (k0_pay15 x0 x1 x2 x3 x4 x5)
      (FloatOps.ofBits FTy.f32 0x47600000#32) (k0_pay17 x0 x1 x2 x3 x4 x5) x3 (ix2 q j)
      = (ins x0 x1 x2 x3 x4 x5).dx q j := by
  rw [Ins.dx]
  simp only [← dxn_eq, ← xhat_eq, ← r_eq]
  pointwise [k0_pay5, k0_pay8]

/-- The gradient at the gain. -/
theorem dgamma_eq (j : Fin 1152) :
    k0_pay6 (View.ld x0 r0_1) (k0_pay14 x0 x1 x2 x3 x4 x5) (k0_pay15 x0 x1 x2 x3 x4 x5)
      (FloatOps.ofBits FTy.f32 0x47600000#32) (k0_pay17 x0 x1 x2 x3 x4 x5) x3 (ix2 0 j)
      = (ins x0 x1 x2 x3 x4 x5).dgamma j := by
  rw [Ins.dgamma]
  simp only [← dxn_eq, ← xhat_eq]
  pointwise [k0_pay6]

/-- The gradient at the weight. -/
theorem dw_eq (i : Fin 1152) (o : Fin 4608) :
    k0_pay4 (View.ld x0 r0_0) (View.ld x0 r0_1) (k0_pay16 x0 x1 x2 x3 x4 x5)
      (FloatOps.ofBits FTy.f32 0x47600000#32) (k0_pay17 x0 x1 x2 x3 x4 x5) (ix2 i o)
      = (ins x0 x1 x2 x3 x4 x5).dw i o := by
  rw [Ins.dw]
  simp only [← xcode_eq, ← ycode_eq]
  pointwise [k0_pay4, k0_pay2, codes]

end Cert.ReferenceIdeal.Point

end
-- ==== Proof.RefValue.lean ====
/- The five arrays the reference leaves, in the words of Spec.lean, from the six arrays its one grid point starts from. -/
module

public import proofs.«01_k».proof.Proof.RefPoint
public import proofs.«01_k».proof.Proof.Gen.ReferenceIdeal.Value
public import Idealize.ShloMosaic.Lib.Pipeline.ValueKit

@[expose] public section

set_option maxRecDepth 16384

noncomputable section

namespace Cert.ReferenceIdeal.Arrays

open Cert.ReferenceIdeal Cert.ReferenceIdeal.Gen Idealize.ShloMosaic Idealize.ShloMosaic.TcCoe Idealize.SL.Sem Cert.Spec
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel

/-- The inputs the six arrays hold when the body starts. -/
abbrev ins : Ins where
  sXn := V m c main_arg0 (ix2 0 0)
  sDy := V m c main_arg0 (ix2 1 0)
  qXn := V m c main_arg0 (ix2 2 0)
  qDy := V m c main_arg0 (ix2 3 0)
  sW := V m c main_v2 (ix2 0 0)
  X := fun q k => V m c main_v0 (ix2 q k)
  G := fun j => V m c main_v1 (ix2 0 j)
  W := fun j o => V m c main_arg3 (ix2 j o)
  DY := fun q o => V m c main_v3 (ix2 q o)

theorem blk0 (t : Fin cfg0.N) (a : Fin 8) (b : Fin 128) : iblk m c 0 t (ix2 a b) = V m c main_arg0 (ix2 a b) := by
  blk_ext! [iblk, idx0 t]
theorem blk1 (t : Fin cfg0.N) (a : Fin 24576) (b : Fin 1152) : iblk m c 1 t (ix2 a b) = V m c main_v0 (ix2 a b) := by
  blk_ext! [iblk, idx1 t]
theorem blk2 (t : Fin cfg0.N) (a : Fin 1) (b : Fin 1152) : iblk m c 2 t (ix2 a b) = V m c main_v1 (ix2 a b) := by
  blk_ext! [iblk, idx2 t]
theorem blk3 (t : Fin cfg0.N) (a : Fin 1152) (b : Fin 4608) : iblk m c 3 t (ix2 a b) = V m c main_arg3 (ix2 a b) := by
  blk_ext! [iblk, idx3 t]
theorem blk4 (t : Fin cfg0.N) (a b : Fin 1) : iblk m c 4 t (ix2 a b) = V m c main_v2 (ix2 a b) := by
  blk_ext! [iblk, idx4 t]
theorem blk5 (t : Fin cfg0.N) (a : Fin 24576) (b : Fin 4608) : iblk m c 5 t (ix2 a b) = V m c main_v3 (ix2 a b) := by
  blk_ext! [iblk, idx5 t]

/-- The blocks of the one grid point are the whole arrays. -/
theorem ins_eq (t : Fin cfg0.N) :
    Point.ins (iblk m c 0 t) (iblk m c 1 t) (iblk m c 2 t) (iblk m c 3 t) (iblk m c 4 t) (iblk m c 5 t) = ins m c := by
  simp only [Point.ins, ins, blk0, blk1, blk2, blk3, blk4, blk5]

/-- The gradient at the rows. -/
theorem arr6 : (dats m 0 c).arrAt 6 cfg0.N = fun i => (ins m c).dx (i 0) (i 1) := by
  refine (dats m 0 c).arrAt_eq_of_after_last 6 t0_0 (by decide +kernel) _ fun j => ?_
  blk_simp
  rw [after0_6]
  frame_out
  rw [← ins_eq m c t0_0]
  exact (congrArg _ (eq_ix2 j)).trans (Point.dx_eq _ _ _ _ _ _ (j 0) (j 1))

/-- The gradient at the weight. -/
theorem arr7 : (dats m 0 c).arrAt 7 cfg0.N = fun i => (ins m c).dw (i 0) (i 1) := by
  refine (dats m 0 c).arrAt_eq_of_after_last 7 t0_0 (by decide +kernel) _ fun j => ?_
  blk_simp
  rw [after0_7]
  frame_out
  rw [← ins_eq m c t0_0]
  exact (congrArg _ (eq_ix2 j)).trans (Point.dw_eq _ _ _ _ _ _ (j 0) (j 1))

/-- The gradient at the gain. -/
theorem arr8 : (dats m 0 c).arrAt 8 cfg0.N = fun i => (ins m c).dgamma (i 1) := by
  refine (dats m 0 c).arrAt_eq_of_after_last 8 t0_0 (by decide +kernel) _ fun j => ?_
  blk_simp
  rw [after0_8]
  frame_out
  rw [← ins_eq m c t0_0]
  refine (congrArg _ ((eq_ix2 j).trans (congrArg (fun a => ix2 a (j 1)) (Subsingleton.elim (α := Fin 1) (j 0) 0)))).trans ?_
  exact Point.dgamma_eq _ _ _ _ _ _ (j 1)

/-- The codes of the normalised rows. -/
theorem arr9 : (dats m 0 c).arrAt 9 cfg0.N = fun i => (ins m c).xcode (i 0) (i 1) := by
  refine (dats m 0 c).arrAt_eq_of_after_last 9 t0_0 (by decide +kernel) _ fun j => ?_
  blk_simp
  rw [after0_9]
  frame_out
  rw [← ins_eq m c t0_0]
  exact (congrArg _ (eq_ix2 j)).trans (Point.xcode_eq _ _ _ _ _ _ (j 0) (j 1))

/-- The codes of the output gradient. -/
theorem arr10 : (dats m 0 c).arrAt 10 cfg0.N = fun i => (ins m c).ycode (i 0) (i 1) := by
  refine (dats m 0 c).arrAt_eq_of_after_last 10 t0_0 (by decide +kernel) _ fun j => ?_
  blk_simp
  rw [after0_10]
  frame_out
  rw [← ins_eq m c t0_0]
  exact (congrArg _ (eq_ix2 j)).trans (Point.ycode_eq _ _ _ _ _ _ (j 0) (j 1))

end Cert.ReferenceIdeal.Arrays

end
-- ==== Proof.Agree.lean ====
/- Memories that agree on the arguments give the two programs the same inputs. -/
module

public import proofs.«01_k».proof.Proof.KernelValue
public import proofs.«01_k».proof.Proof.RefValue

@[expose] public section

set_option maxRecDepth 16384

noncomputable section

namespace Cert.Agree

open Idealize.ShloMosaic Idealize.ShloMosaic.TcCoe Idealize.SL.Sem Cert.Spec

/-- The inputs as functions of the six arguments. -/
abbrev ofArgs (a0 : Vec Ideal Cert.KernelIdeal.S8x128 .f32) (a1 : Vec Ideal Cert.KernelIdeal.S24x1024x1152 .bf16)
    (a2 : Vec Ideal Cert.KernelIdeal.S1152 .f32) (a3 : Vec Ideal Cert.KernelIdeal.S1152x4608 .fp8e4m3)
    (a4 : Vec Ideal Cert.KernelIdeal.S1 .f32) (a5 : Vec Ideal Cert.KernelIdeal.S24x1024x4608 .bf16) : Ins where
  sXn := a0 (ix2 0 0)
  sDy := a0 (ix2 1 0)
  qXn := a0 (ix2 2 0)
  qDy := a0 (ix2 3 0)
  sW := a4 (ix1 0)
  X := fun q k => shapeCast Cert.KernelIdeal.S24576x1152 a1 (by decide) (ix2 q k)
  G := fun j => a2 (ix1 j)
  W := fun j o => a3 (ix2 j o)
  DY := fun q o => shapeCast Cert.KernelIdeal.S24576x4608 a5 (by decide) (ix2 q o)

/-- The gradient of the input, as an array. -/
def dx (I : Ins) : Vec Ideal Cert.KernelIdeal.S24576x1152 .f32 := fun i => I.dx (i 0) (i 1)

/-- The gradient of the weights, as an array. -/
def dw (I : Ins) : Vec Ideal Cert.KernelIdeal.S1152x4608 .f32 := fun i => I.dw (i 0) (i 1)

/-- The gradient of the gains, as an array. -/
def dgamma (I : Ins) : Vec Ideal Cert.KernelIdeal.S1x1152 .f32 := fun i => I.dgamma (i 1)

/-- The codes of the normalised input, as an array. -/
def xcode (I : Ins) : Vec Ideal Cert.KernelIdeal.S24576x1152 .fp8e4m3 := fun i => I.xcode (i 0) (i 1)

/-- The codes of the output gradient, as an array. -/
def ycode (I : Ins) : Vec Ideal Cert.KernelIdeal.S24576x4608 .fp8e4m3 := fun i => I.ycode (i 0) (i 1)

section Kernel
open Cert.KernelIdeal Cert.KernelIdeal.Gen

variable (m : (ℓ : Loc nD τ sig) → Buf (Elt Ideal) ℓ) (c : Dev nD)

/-- The kernel's inputs. -/
theorem kernel : Cert.KernelIdeal.Arrays.ins m c
    = ofArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have hg : ∀ j : Fin 1152, V m c main_v2 (ix2 0 j) = m ((c : Thread nD τ).loc main_arg2) (ix1 j) := fun j => by
    entry_read
    pointwise
  have hx : V m c main_v0 = shapeCast S24576x1152 (m ((c : Thread nD τ).loc main_arg1)) (shapeCasts_S24x1024x1152_S24576x1152) := by
    entry_read
    rfl
  have hy : V m c main_v1 = shapeCast S24576x4608 (m ((c : Thread nD τ).loc main_arg5)) (shapeCasts_S24x1024x4608_S24576x4608) := by
    entry_read
    rfl
  have h0 : V m c main_arg0 = m ((c : Thread nD τ).loc main_arg0) := V_main_arg0 m c
  have h3 : V m c main_arg3 = m ((c : Thread nD τ).loc main_arg3) := V_main_arg3 m c
  have h4 : V m c main_arg4 = m ((c : Thread nD τ).loc main_arg4) := V_main_arg4 m c
  simp only [Cert.KernelIdeal.Arrays.ins, ofArgs, hg, hx, hy]
  rw [h0, h3, h4]

/-- Output 6 of this program. -/
theorem k6 : (dats m 0 c).arrAt 6 cfg0.N = dx (Cert.KernelIdeal.Arrays.ins m c) :=
  Cert.KernelIdeal.Arrays.arr6 m c

/-- Output 7 of this program. -/
theorem k7 : (dats m 0 c).arrAt 7 cfg0.N = dw (Cert.KernelIdeal.Arrays.ins m c) :=
  Cert.KernelIdeal.Arrays.arr7 m c

/-- Output 8 of this program. -/
theorem k8 : (dats m 0 c).arrAt 8 cfg0.N = dgamma (Cert.KernelIdeal.Arrays.ins m c) :=
  Cert.KernelIdeal.Arrays.arr8 m c

/-- Output 9 of this program. -/
theorem k9 : (dats m 0 c).arrAt 9 cfg0.N = xcode (Cert.KernelIdeal.Arrays.ins m c) :=
  Cert.KernelIdeal.Arrays.arr9 m c

/-- Output 10 of this program. -/
theorem k10 : (dats m 0 c).arrAt 10 cfg0.N = ycode (Cert.KernelIdeal.Arrays.ins m c) :=
  Cert.KernelIdeal.Arrays.arr10 m c

end Kernel

section Reference
open Cert.ReferenceIdeal Cert.ReferenceIdeal.Gen

variable (m : (ℓ : Loc nD τ sig) → Buf (Elt Ideal) ℓ) (c : Dev nD)

/-- The reference's inputs. -/
theorem reference : Cert.ReferenceIdeal.Arrays.ins m c
    = ofArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have hg : ∀ j : Fin 1152, V m c main_v1 (ix2 0 j) = m ((c : Thread nD τ).loc main_arg2) (ix1 j) := fun j => by
    entry_read
    pointwise
  have hs : V m c main_v2 (ix2 0 0) = m ((c : Thread nD τ).loc main_arg4) (ix1 0) := by
    entry_read
    pointwise
  have hx : V m c main_v0 = shapeCast S24576x1152 (m ((c : Thread nD τ).loc main_arg1)) (shapeCasts_S24x1024x1152_S24576x1152) := by
    entry_read
    rfl
  have hy : V m c main_v3 = shapeCast S24576x4608 (m ((c : Thread nD τ).loc main_arg5)) (shapeCasts_S24x1024x4608_S24576x4608) := by
    entry_read
    rfl
  have h0 : V m c main_arg0 = m ((c : Thread nD τ).loc main_arg0) := V_main_arg0 m c
  have h3 : V m c main_arg3 = m ((c : Thread nD τ).loc main_arg3) := V_main_arg3 m c
  simp only [Cert.ReferenceIdeal.Arrays.ins, ofArgs, hs, hg, hx, hy]
  rw [h0, h3]

/-- Output 6 of this program. -/
theorem r6 : (dats m 0 c).arrAt 6 cfg0.N = dx (Cert.ReferenceIdeal.Arrays.ins m c) :=
  Cert.ReferenceIdeal.Arrays.arr6 m c

/-- Output 7 of this program. -/
theorem r7 : (dats m 0 c).arrAt 7 cfg0.N = dw (Cert.ReferenceIdeal.Arrays.ins m c) :=
  Cert.ReferenceIdeal.Arrays.arr7 m c

/-- Output 8 of this program. -/
theorem r8 : (dats m 0 c).arrAt 8 cfg0.N = dgamma (Cert.ReferenceIdeal.Arrays.ins m c) :=
  Cert.ReferenceIdeal.Arrays.arr8 m c

/-- Output 9 of this program. -/
theorem r9 : (dats m 0 c).arrAt 9 cfg0.N = xcode (Cert.ReferenceIdeal.Arrays.ins m c) :=
  Cert.ReferenceIdeal.Arrays.arr9 m c

/-- Output 10 of this program. -/
theorem r10 : (dats m 0 c).arrAt 10 cfg0.N = ycode (Cert.ReferenceIdeal.Arrays.ins m c) :=
  Cert.ReferenceIdeal.Arrays.arr10 m c

end Reference

section Both

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on this device. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Equal arguments give equal inputs. -/
theorem ins (h : Args m m' c) : Cert.ReferenceIdeal.Arrays.ins m' c = Cert.KernelIdeal.Arrays.ins m c := by
  obtain ⟨h0, h1, h2, h3, h4, h5⟩ := h
  rw [kernel m c, reference m' c]
  exact congr (congr (congr (congr (congr (congrArg ofArgs h0) h1) h2) h3) h4) h5

end Both

end Cert.Agree

end
-- ==== Proof.Exponent.lean ====
/- The exponent of a non-negative number, found in two ways: bit by bit in the exponent field of a 32-bit word, as the
   kernel does it, and as the least power of two above the number, as the reference does it. -/
module

public import Idealize.ShloMosaic.Lib.Pointwise
public import Idealize.ShloMosaic.Lib.IdealHost

@[expose] public section

noncomputable section

namespace Cert.Exponent

open Idealize.ShloMosaic

/-! ## Words with an empty significand -/

/-- The word with exponent field `k` and nothing else. -/
abbrev word (k : ℕ) : BitVec 32 := BitVec.ofNat 32 (k * 2 ^ 23)

/-- The number that word denotes. -/
abbrev level (k : ℕ) : EReal := Ideal.ofBits .f32 (word k)

theorem level_eq {k : ℕ} (h1 : 1 ≤ k) (h2 : k ≤ 254) : level k = (((2 : ℝ) ^ ((k : ℤ) - 127) : ℝ) : EReal) := by
  have hw : (word k).toNat = k * 2 ^ 23 := by
    rw [BitVec.toNat_ofNat]
    exact Nat.mod_eq_of_lt (by omega)
  have hs : ((word k).extractLsb' (8 + 23) 1 == 1#1) = false := by
    rw [beq_eq_false_iff_ne]
    intro h
    have := congrArg BitVec.toNat h
    rw [BitVec.extractLsb'_toNat, hw, Nat.shiftRight_eq_div_pow] at this
    have e : k * 2 ^ 23 / 2 ^ (8 + 23) = 0 := by omega
    rw [e] at this
    simp at this
  have he : ((word k).extractLsb' 23 8).toNat = k := by
    rw [BitVec.extractLsb'_toNat, hw, Nat.shiftRight_eq_div_pow]
    omega
  have hf : ((word k).extractLsb' 0 23).toNat = 0 := by
    rw [BitVec.extractLsb'_toNat, hw, Nat.shiftRight_eq_div_pow]
    omega
  show Ideal.ieee 8 23 (word k) = _
  unfold Ideal.ieee
  simp only [hs, he, hf]
  rw [if_neg (by omega), if_neg (by omega)]
  congr 1
  have : (2 : ℝ) ^ ((k : ℤ) - 127) = 2 ^ (23 : ℤ) * 2 ^ ((k : ℤ) - 150) := by
    rw [← zpow_add₀ (by norm_num)]
    congr 1
    omega
  rw [this]
  norm_num
  omega

theorem level_top : level 255 = ⊤ := by
  simp [level, word, Ideal.ofBits, Ideal.ieee]

theorem level_mono {k l : ℕ} (h1 : 1 ≤ k) (h : k ≤ l) (h2 : l ≤ 254) : level k ≤ level l := by
  rw [level_eq h1 (by omega), level_eq (by omega) h2, EReal.coe_le_coe_iff]
  exact zpow_le_zpow_right₀ (by norm_num) (by omega)

/-! ## The search -/

/-- One step of the search: bit `b` is set if the number it gives is not above `x`. -/
def step (x : EReal) (w b : BitVec 32) : BitVec 32 :=
  if x < Ideal.ofBits .f32 (IntOp.addi w b) then w else IntOp.addi w b

/-- The search: the eight exponent bits, highest first. -/
def search (x : EReal) : BitVec 32 :=
  step x (step x (step x (step x (step x (step x (step x (step x 0#32 1073741824#32) 536870912#32) 268435456#32)
    134217728#32) 67108864#32) 33554432#32) 16777216#32) 8388608#32

/-- What the search keeps: `k` is not above `x`, and `k + d` is, or is past the last word. -/
def Between (x : EReal) (k d : ℕ) : Prop :=
  (k = 0 ∨ level k ≤ x) ∧ (x < level (k + d) ∨ k + d = 256) ∧ k + d ≤ 256

theorem step_spec {x : EReal} {k d : ℕ} (h : Between x k (2 * d)) :
    ∃ l, step x (word k) (word d) = word l ∧ Between x l d := by
  have e : IntOp.addi (word k) (word d) = word (k + d) := by
    unfold IntOp.addi word
    rw [← BitVec.ofNat_add, Nat.add_mul]
  unfold step
  rw [e]
  by_cases c : x < level (k + d)
  · exact ⟨k, if_pos c, h.1, .inl c, by have := h.2.2; omega⟩
  · refine ⟨k + d, if_neg c, .inr (not_lt.1 c), ?_⟩
    rw [show k + d + d = k + 2 * d by omega]
    exact h.2

theorem search_spec (x : EReal) : ∃ n, search x = word n ∧ Between x n 1 := by
  obtain ⟨a, ea, ha⟩ := step_spec (x := x) (k := 0) (d := 128) ⟨.inl rfl, .inr rfl, le_rfl⟩
  obtain ⟨b, eb, hb⟩ := step_spec (d := 64) ha
  obtain ⟨c, ec, hc⟩ := step_spec (d := 32) hb
  obtain ⟨d, ed, hd⟩ := step_spec (d := 16) hc
  obtain ⟨e, ee, he⟩ := step_spec (d := 8) hd
  obtain ⟨f, ef, hf⟩ := step_spec (d := 4) he
  obtain ⟨g, eg, hg⟩ := step_spec (d := 2) hf
  obtain ⟨n, en, hn⟩ := step_spec (d := 1) hg
  refine ⟨n, ?_, hn⟩
  rw [← en, ← eg, ← ef, ← ee, ← ed, ← ec, ← eb, ← ea]
  rfl

/-- Below `2 ^ 126` the field found is the exponent. -/
theorem field_spec {x : EReal} (hx : x < level 253) :
    ∃ n, search x = word n ∧ n ≤ 252 ∧ x < level (n + 1) ∧ (n = 0 ∨ level n ≤ x) := by
  obtain ⟨n, e, h1, h2, h3⟩ := search_spec x
  have hn : n ≤ 252 := by
    by_contra c
    have h1 := h1.resolve_left (by omega)
    by_cases c254 : n ≤ 254
    · exact absurd (lt_of_lt_of_le hx (level_mono (by norm_num) (by omega) c254)) (not_lt.2 h1)
    · obtain rfl : n = 255 := by omega
      rw [level_top] at h1
      exact absurd (lt_of_lt_of_le hx le_top) (not_lt.2 h1)
  exact ⟨n, e, hn, h2.resolve_right (by omega), h1⟩

/-! ## The words of the kernel -/

/-- The exponent word of the field word `w`: the field less 126, zero at an empty field. -/
def expoWord (w : BitVec 32) : BitVec 32 :=
  Scalar.select (IntOp.cmpi .eq (IntOp.andi (IntOp.shrsi .vector w 23#32) 255#32) 0#32) (0#32)
    (IntOp.subi (IntOp.andi (IntOp.shrsi .vector w 23#32) 255#32) 126#32)

/-- The power of two with exponent word `e`, written into the exponent field of a word. -/
def powWord (e : BitVec 32) : EReal := Ideal.ofBits .f32 (IntOp.shli .vector (IntOp.addi e 127#32) 23#32)

theorem expoWord_zero : expoWord (word 0) = 0#32 := by decide +kernel

theorem pow_pos (n : ℕ) (h1 : 1 ≤ n) (h2 : n ≤ 252) : powWord (expoWord (word n)) = level (n + 1) := by
  have : ∀ n : Fin 253, 1 ≤ n.val →
      IntOp.shli .vector (IntOp.addi (expoWord (word n.val)) 127#32) 23#32 = word (n.val + 1) := by decide +kernel
  exact congrArg (Ideal.ofBits .f32) (this ⟨n, by omega⟩ h1)

theorem pow_neg (n : ℕ) (h1 : 1 ≤ n) (h2 : n ≤ 252) :
    powWord (IntOp.subi 0#32 (expoWord (word n))) = level (253 - n) := by
  have : ∀ n : Fin 253, 1 ≤ n.val →
      IntOp.shli .vector (IntOp.addi (IntOp.subi 0#32 (expoWord (word n.val))) 127#32) 23#32 = word (253 - n.val) := by
    decide +kernel
  exact congrArg (Ideal.ofBits .f32) (this ⟨n, by omega⟩ h1)

theorem pow_zero : powWord 0#32 = 1 := by
  show level 127 = 1
  rw [level_eq (by norm_num) (by norm_num)]
  norm_num

/-! ## The exponent of the reference -/

/-- Numbers below the least normal number are zero. -/
def flush (x : EReal) : EReal := if x < Ideal.ofBits .f32 8388608#32 then 0 else x

/-- The `k`-th exponent the reference tries. -/
def trial (k : Fin 256) : EReal :=
  FloatOps.sitofp (F := Ideal) .f32 (BitVec.ofNat 32 k.val) - Ideal.ofBits .f32 1123942400#32

/-- The least exponent whose power of two is above `x`, zero at zero. -/
def expo (x : EReal) : EReal :=
  if flush x = 0 then 0
  else (Finset.univ : Finset (Fin 256)).fold min (Ideal.ofBits .f32 2139095040#32) fun k =>
    if flush x < FloatOps.exp2 (F := Ideal) (φ := .f32) (trial k) then trial k else Ideal.ofBits .f32 2139095040#32

theorem trial_eq (k : Fin 256) : trial k = (((k.val : ℝ) - 127 : ℝ) : EReal) := by
  have h : ∀ k : Fin 256, (BitVec.ofNat 32 k.val).toInt = (k.val : ℤ) := by decide +kernel
  have h127 : Ideal.ofBits .f32 1123942400#32 = ((127 : ℝ) : EReal) := by
    simp [Ideal.ofBits, Ideal.ieee, -EReal.coe_mul]
    norm_num
  show ((((BitVec.ofNat 32 k.val).toInt : ℤ) : ℝ) : EReal) - _ = _
  rw [h, h127, ← EReal.coe_sub]
  norm_cast

theorem exp2_int (z : ℤ) : FloatOps.exp2 (F := Ideal) (φ := .f32) (((z : ℝ) : ℝ) : EReal) = (((2 : ℝ) ^ z : ℝ) : EReal) := by
  refine (Ideal.exp2_coe _).trans ?_
  congr 1
  exact Real.rpow_intCast 2 z

theorem exp2_trial (k : Fin 256) :
    FloatOps.exp2 (F := Ideal) (φ := .f32) (trial k) = (((2 : ℝ) ^ ((k.val : ℤ) - 127) : ℝ) : EReal) := by
  rw [trial_eq, ← exp2_int]
  push_cast
  rfl

theorem top_eq : Ideal.ofBits .f32 2139095040#32 = (⊤ : EReal) := level_top

theorem expo_small {x : EReal} (h : x < level 1) : expo x = 0 := by
  have : flush x = 0 := if_pos h
  exact if_pos this

theorem expo_field {x : EReal} {n : ℕ} (h1 : 1 ≤ n) (h2 : n ≤ 252) (hl : level n ≤ x) (hu : x < level (n + 1)) :
    expo x = ((((n : ℤ) - 126 : ℤ) : ℝ) : EReal) := by
  have hf : flush x = x := if_neg (not_lt.2 (le_trans (level_mono le_rfl h1 (by omega)) hl))
  have h0 : x ≠ 0 := by
    intro h
    rw [h, level_eq h1 (by omega), ← EReal.coe_zero, EReal.coe_le_coe_iff] at hl
    exact absurd hl (not_le.2 (by positivity))
  rw [level_eq h1 (by omega)] at hl
  rw [level_eq (by omega) (by omega)] at hu
  unfold expo
  rw [hf, if_neg h0, top_eq]
  apply le_antisymm
  · refine Finset.fold_min_le _ |>.2 (.inr ⟨⟨n + 1, by omega⟩, Finset.mem_univ _, ?_⟩)
    rw [exp2_trial, if_pos hu, trial_eq]
    apply le_of_eq
    rw [EReal.coe_eq_coe_iff]
    push_cast
    ring
  · refine Finset.le_fold_min _ |>.2 ⟨le_top, fun k _ => ?_⟩
    split_ifs with c
    · rw [exp2_trial] at c
      have := lt_of_le_of_lt hl c
      rw [EReal.coe_lt_coe_iff, zpow_lt_zpow_iff_right₀ (by norm_num)] at this
      rw [trial_eq, EReal.coe_le_coe_iff]
      have h : (n : ℤ) - 126 ≤ (k.val : ℤ) - 127 := by omega
      exact_mod_cast h
    · exact le_top

/-! ## The two agree -/

/-- The scale of the greatest absolute value over the format's largest number. -/
def scale (x : EReal) : EReal := FloatOps.exp2 (F := Ideal) (φ := .f32) (expo x)

/-- Its inverse. -/
def inv (x : EReal) : EReal := FloatOps.exp2 (F := Ideal) (φ := .f32) (0 - expo x)

theorem scale_eq {x : EReal} (hx : x < level 253) : powWord (expoWord (search x)) = scale x := by
  obtain ⟨n, e, hn, hu, hl⟩ := field_spec hx
  unfold scale
  rw [e]
  rcases Nat.eq_zero_or_pos n with rfl | h1
  · rw [expoWord_zero, pow_zero, expo_small hu, ← EReal.coe_zero, ← Int.cast_zero, exp2_int]
    norm_num
  · rw [pow_pos n h1 hn, expo_field h1 hn (hl.resolve_left (by omega)) hu, exp2_int, level_eq (by omega) (by omega)]
    congr 2
    omega

theorem inv_eq {x : EReal} (hx : x < level 253) : powWord (IntOp.subi 0#32 (expoWord (search x))) = inv x := by
  obtain ⟨n, e, hn, hu, hl⟩ := field_spec hx
  unfold inv
  rw [e]
  rcases Nat.eq_zero_or_pos n with rfl | h1
  · rw [expoWord_zero, expo_small hu, sub_zero, ← EReal.coe_zero, ← Int.cast_zero, exp2_int]
    refine Eq.trans pow_zero ?_
    norm_num
  · rw [pow_neg n h1 hn, expo_field h1 hn (hl.resolve_left (by omega)) hu, ← EReal.coe_zero, ← EReal.coe_sub,
      ← Int.cast_zero, ← Int.cast_sub, exp2_int, level_eq (by omega) (by omega)]
    congr 2
    omega

end Cert.Exponent

end
-- ==== Proof.ScalesSpec.lean ====
/- What the pass that finds the two per-tensor scales computes, written once over the extended reals, with no program in
   it, and the bound that keeps the scales inside the range of the 32-bit format. -/
module

public import proofs.«01_k».proof.Proof.Exponent

@[expose] public section

set_option maxRecDepth 16384

noncomputable section

namespace Cert.ScaleSpec

open Idealize.ShloMosaic Cert.Exponent

/-- The inputs: the rows `X`, the gain `G`, the output gradient `DY`. -/
structure Ins where
  X : Fin 24576 → Fin 1152 → EReal
  G : Fin 1152 → EReal
  DY : Fin 24576 → Fin 4608 → EReal

/-- The absolute value. -/
abbrev mag (x : EReal) : EReal := FloatOps.absf (F := Ideal) (φ := .f32) x

/-- Where the maxima start. -/
abbrev start : EReal := Ideal.ofBits .f32 4286578688#32

theorem start_eq : start = ⊥ := by simp [Ideal.ofBits, Ideal.ieee]

theorem start_bf16_eq : Ideal.ofBits .bf16 65408#16 = ⊥ := by simp [Ideal.ofBits, Ideal.ieee]

theorem mag_nonneg (x : EReal) : 0 ≤ mag x := by
  show 0 ≤ max x (-x)
  rcases le_total 0 x with h | h
  · exact le_max_of_le_left h
  · exact le_max_of_le_right (by simpa using h)

theorem mag_le {x b : EReal} (h1 : x ≤ b) (h2 : -x ≤ b) : mag x ≤ b := max_le h1 h2

/-- A maximum is at most `b` when all its members are. -/
theorem fold_le {α : Type} [Fintype α] (f : α → EReal) (b : EReal) :
    Finset.univ.fold max start f ≤ b ↔ ∀ a, f a ≤ b := by
  rw [Finset.fold_max_le, start_eq]
  simp

namespace Ins

variable (I : Ins)

/-- The reciprocal root mean square of row `q`. -/
def r (q : Fin 24576) : EReal :=
  Ideal.rsqrt (Ideal.div (∑ k, I.X q k * I.X q k) (Ideal.ofBits .f32 1150287872#32) + Ideal.ofBits .f32 897988541#32)

/-- The normalised row with the gain. -/
def xn (q : Fin 24576) (j : Fin 1152) : EReal := I.X q j * I.r q * I.G j

/-- The greatest absolute value of the normalised rows. -/
def topX : EReal := Finset.univ.fold max start fun p : Fin 24576 × Fin 1152 => mag (I.xn p.1 p.2)

/-- The greatest absolute value of the output gradient. -/
def topY : EReal := Finset.univ.fold max start fun p : Fin 24576 × Fin 4608 => mag (I.DY p.1 p.2)

/-- The first maximum over the largest number of e4m3. -/
def ratioX : EReal := I.topX * Ideal.ofBits .f32 991054117#32

/-- The second maximum over the largest number of e5m2. -/
def ratioY : EReal := I.topY * Ideal.ofBits .f32 932333861#32

/-- Row `i` of the array the pass writes: the two scales, then their inverses. -/
def out (i : Fin 8) : EReal :=
  if i.val = 0 then scale I.ratioX else if i.val = 1 then scale I.ratioY else if i.val = 2 then inv I.ratioX else inv I.ratioY

theorem topX_le (b : EReal) : I.topX ≤ b ↔ ∀ q j, mag (I.xn q j) ≤ b := by
  unfold topX
  rw [fold_le, Prod.forall]

theorem topY_le (b : EReal) : I.topY ≤ b ↔ ∀ q j, mag (I.DY q j) ≤ b := by
  unfold topY
  rw [fold_le, Prod.forall]

theorem topX_nonneg : 0 ≤ I.topX :=
  (mag_nonneg (I.xn ⟨0, by norm_num⟩ ⟨0, by norm_num⟩)).trans ((I.topX_le _).1 le_rfl _ _)

theorem topY_nonneg : 0 ≤ I.topY :=
  (mag_nonneg (I.DY ⟨0, by norm_num⟩ ⟨0, by norm_num⟩)).trans ((I.topY_le _).1 le_rfl _ _)

/-! ## The bound -/

/-- The largest finite number of the 32-bit format. -/
abbrev largest : EReal := Ideal.ofBits .f32 0x7F7FFFFF#32

theorem largest_le : largest ≤ (((2 : ℝ) ^ 128 : ℝ) : EReal) := by
  simp [Ideal.ofBits, Ideal.ieee, -EReal.coe_mul]
  norm_cast

/-- A real row divided by the root of its mean square is at most 34. -/
theorem normalised_le (x s e : ℝ) (he : 0 < e) (h : x * x ≤ s) : |x * (Real.sqrt (s / 1152 + e))⁻¹| ≤ 34 := by
  have hs : 0 ≤ s := (mul_self_nonneg x).trans h
  have hp : 0 < s / 1152 + e := by positivity
  rw [abs_mul, abs_inv, abs_of_nonneg (Real.sqrt_nonneg _), ← div_eq_mul_inv, div_le_iff₀ (Real.sqrt_pos.2 hp)]
  rw [← Real.sqrt_mul_self_eq_abs, show (34 : ℝ) = Real.sqrt (34 * 34) by rw [Real.sqrt_mul_self (by norm_num)],
    ← Real.sqrt_mul (by norm_num)]
  exact Real.sqrt_le_sqrt (by nlinarith)

theorem mul_self_ereal_nonneg (x : EReal) : 0 ≤ x * x := by
  rcases le_total 0 x with h | h
  · exact mul_nonneg h h
  · have := mul_nonneg (a := -x) (b := -x) (by simpa using h) (by simpa using h)
    simpa using this

/-- A normalised row's entry is a real number at most 34 in absolute value. -/
theorem xhat_real (q : Fin 24576) (j : Fin 1152) : ∃ y : ℝ, I.X q j * I.r q = (y : EReal) ∧ |y| ≤ 34 := by
  have hw : Ideal.ofBits .f32 1150287872#32 = ((1152 : ℝ) : EReal) := by
    simp [Ideal.ofBits, Ideal.ieee, -EReal.coe_mul]
    norm_num
  obtain ⟨e, he, hpos⟩ : ∃ e : ℝ, Ideal.ofBits .f32 897988541#32 = (e : EReal) ∧ 0 < e := by
    refine ⟨8796093 / 2 ^ 43, ?_, by norm_num⟩
    simp [Ideal.ofBits, Ideal.ieee, -EReal.coe_mul]
    norm_num
  have hsum : I.X q j * I.X q j ≤ ∑ k, I.X q k * I.X q k :=
    Finset.single_le_sum (f := fun k => I.X q k * I.X q k) (fun k _ => mul_self_ereal_nonneg _) (Finset.mem_univ j)
  have hnn : 0 ≤ ∑ k, I.X q k * I.X q k := Finset.sum_nonneg fun k _ => mul_self_ereal_nonneg _
  unfold r
  rw [hw, he]
  generalize ∑ k, I.X q k * I.X q k = s at hsum hnn
  generalize I.X q j = x at hsum
  induction s with
  | bot => exact absurd hnn (by simp)
  | top =>
    refine ⟨0, ?_, by norm_num⟩
    have : Ideal.div ⊤ ((1152 : ℝ) : EReal) = ⊤ := by
      rw [Ideal.div_coe (by norm_num)]
      exact EReal.top_mul_coe_of_pos (by norm_num)
    rw [this, EReal.top_add_coe, Ideal.rsqrt_top, mul_zero, EReal.coe_zero]
  | coe s =>
    induction x with
    | bot => simp at hsum
    | top => simp at hsum
    | coe x =>
      have hx : x * x ≤ s := by exact_mod_cast hsum
      have hs : 0 ≤ s := (mul_self_nonneg x).trans hx
      have hd : Ideal.div (s : EReal) ((1152 : ℝ) : EReal) = ((s / 1152 : ℝ) : EReal) := by
        rw [Ideal.div_coe (by norm_num), ← EReal.coe_mul, mul_one_div]
      have hp : 0 < s / 1152 + e := by positivity
      refine ⟨x * (Real.sqrt (s / 1152 + e))⁻¹, ?_, normalised_le x s e hpos hx⟩
      rw [hd, ← EReal.coe_add, Ideal.rsqrt_coe, if_neg (not_lt.2 hp.le), if_neg hp.ne', EReal.coe_mul]

theorem xn_le {b : ℝ} (hb : 0 ≤ b) (hG : ∀ j, mag (I.G j) ≤ b) (q : Fin 24576) (j : Fin 1152) :
    mag (I.xn q j) ≤ ((34 * b : ℝ) : EReal) := by
  obtain ⟨y, hy, hy34⟩ := I.xhat_real q j
  have h1 : I.G j ≤ b := (le_max_left _ _).trans (hG j)
  have h2 : -I.G j ≤ b := (le_max_right _ _).trans (hG j)
  unfold xn
  rw [hy]
  generalize I.G j = g at h1 h2
  induction g with
  | bot => simp at h2
  | top => simp at h1
  | coe g =>
    have h1 : g ≤ b := by exact_mod_cast h1
    have h2 : -g ≤ b := by exact_mod_cast h2
    have hg : |g| ≤ b := abs_le.2 ⟨by linarith, h1⟩
    have hm : |y * g| ≤ 34 * b := by
      rw [abs_mul]
      exact mul_le_mul hy34 hg (abs_nonneg _) (by norm_num)
    refine mag_le ?_ ?_
    · rw [← EReal.coe_mul, EReal.coe_le_coe_iff]
      exact (le_abs_self _).trans hm
    · rw [← EReal.coe_mul, ← EReal.coe_neg, EReal.coe_le_coe_iff]
      exact (neg_le_abs _).trans hm

/-- A maximum that is small enough, over a format's largest number, is below `2 ^ 126`. -/
theorem ratio_lt {a c : EReal} {b d : ℝ} (h0 : 0 ≤ a) (h : a ≤ (b : EReal)) (hc : c = (d : EReal)) (hd : 0 ≤ d)
    (hbd : b * d < 2 ^ 126) : a * c < level 253 := by
  rw [level_eq (by norm_num) (by norm_num), hc]
  induction a with
  | bot => exact absurd h0 (by simp)
  | top => simp at h
  | coe a =>
    have h : a ≤ b := by exact_mod_cast h
    rw [← EReal.coe_mul, EReal.coe_lt_coe_iff]
    refine lt_of_le_of_lt (mul_le_mul_of_nonneg_right h hd) (hbd.trans_eq ?_)
    norm_num

theorem ratioX_lt (hG : ∀ j, mag (I.G j) ≤ largest) : I.ratioX < level 253 := by
  obtain ⟨d, hc, hd, hu⟩ : ∃ d : ℝ, Ideal.ofBits .f32 991054117#32 = (d : EReal) ∧ 0 ≤ d ∧ d < 1 / 400 := by
    refine ⟨9586981 / 2 ^ 32, ?_, by norm_num, by norm_num⟩
    simp [Ideal.ofBits, Ideal.ieee, -EReal.coe_mul]
    norm_num
  refine ratio_lt I.topX_nonneg (b := 34 * 2 ^ 128) ((I.topX_le _).2 fun q j => ?_) hc hd ?_
  · exact I.xn_le (by positivity) (fun j => (hG j).trans largest_le) q j
  · nlinarith

theorem ratioY_lt (hY : ∀ q o, mag (I.DY q o) ≤ largest) : I.ratioY < level 253 := by
  obtain ⟨d, hc, hd, hu⟩ : ∃ d : ℝ, Ideal.ofBits .f32 932333861#32 = (d : EReal) ∧ 0 ≤ d ∧ d < 1 / 400 := by
    refine ⟨9586981 / 2 ^ 39, ?_, by norm_num, by norm_num⟩
    simp [Ideal.ofBits, Ideal.ieee, -EReal.coe_mul]
    norm_num
  refine ratio_lt I.topY_nonneg (b := 2 ^ 128) ((I.topY_le _).2 fun q o => (hY q o).trans largest_le) hc hd ?_
  nlinarith

end Ins

end Cert.ScaleSpec

end
-- ==== Proof.ScalesPoint.lean ====
/- What one grid point of the pass that finds the two scales does to the two running maxima it carries, and what the last
   point writes, in the words of ScalesSpec.lean. -/
module

public import proofs.«01_k».proof.Proof.ScalesSpec
public import proofs.«01_k».proof.Proof.Gen.ScalesIdeal.Skeleton

@[expose] public section

set_option maxRecDepth 16384

noncomputable section

namespace Cert.ScalesIdeal.Point

open Cert.ScalesIdeal Cert.ScalesIdeal.Gen Idealize.ShloMosaic Cert.ScaleSpec Cert.Exponent

variable (I : Ins) (ρ : Fin 1024 → Fin 24576)

/-- Row `s` of group `i` of a block, in groups of eight. -/
abbrev at8 (i : Fin 128) (s : Fin 8) : Fin 1024 := ⟨i.val * 8 + s.val, by omega⟩

/-- Row `s` of group `i` of a block, in groups of sixteen. -/
abbrev at16 (i : Fin 64) (s : Fin 16) : Fin 1024 := ⟨i.val * 16 + s.val, by omega⟩

/-- The first running maximum takes in the normalised rows of the block. -/
theorem stepX_eq {x : Vec Ideal S1024x1152 .bf16} (hx : ∀ i k, x (ix2 i k) = I.X (ρ i) k)
    {g : Vec Ideal S1x1152 .f32} (hg : ∀ j, g (ix2 0 j) = I.G j) (v : Vec Ideal S8x1152 .f32) (s : Fin 8) (j : Fin 1152) :
    k0_pay17 (F := Ideal) x v g (ix2 s j)
      = max (v (ix2 s j)) (Finset.univ.fold max start fun i : Fin 128 => mag (I.xn (ρ (at8 i s)) j)) := by
  pointwise [k0_pay17]
  simp only [hx, hg]
  rfl

/-- The second running maximum takes in the output gradient of the block. -/
theorem stepY_eq {y : Vec Ideal S1024x4608 .bf16} (hy : ∀ i k, y (ix2 i k) = I.DY (ρ i) k)
    (v : Vec Ideal S16x4608 .bf16) (s : Fin 16) (j : Fin 4608) :
    k0_pay1 (F := Ideal) (k0_pay18 y v) (ix2 s j)
      = max (v (ix2 s j)) (Finset.univ.fold max start fun i : Fin 64 => mag (I.DY (ρ (at16 i s)) j)) := by
  rw [start_eq, ← start_bf16_eq]
  pointwise [k0_pay1, k0_pay18]
  simp only [hy]
  rfl

/-- Both maxima start at zero. -/
theorem zeroX_eq (s : Fin 8) (j : Fin 1152) : k0_pay15 (F := Ideal) (ix2 s j) = 0 := by
  pointwise [k0_pay15]

theorem zeroY_eq (s : Fin 16) (j : Fin 4608) : k0_pay16 (F := Ideal) (ix2 s j) = 0 := by
  pointwise [k0_pay16]

/-- The ratio the last point forms from the first maximum. -/
theorem ratioX_eq {v : Vec Ideal S8x1152 .f32} (hv : ∀ b, (∀ s j, v (ix2 s j) ≤ b) ↔ I.topX ≤ b) :
    k0_pay3 (F := Ideal) v (ix2 0 0) = I.ratioX := by
  unfold Ins.ratioX
  rw [show I.topX = Finset.univ.fold max start fun j : Fin 1152 => Finset.univ.fold max start fun s : Fin 8 => v (ix2 s j) from
    eq_of_forall_ge_iff fun b => by
      simp only [fold_le]
      rw [← hv b, forall_comm]]
  pointwise [k0_pay3]

/-- The ratio the last point forms from the second maximum. -/
theorem ratioY_eq {v : Vec Ideal S16x4608 .bf16} (hv : ∀ b, (∀ s j, v (ix2 s j) ≤ b) ↔ I.topY ≤ b) :
    k0_pay8 (F := Ideal) v (ix2 0 0) = I.ratioY := by
  unfold Ins.ratioY
  rw [show I.topY = Finset.univ.fold max start fun j : Fin 4608 => Finset.univ.fold max start fun s : Fin 16 => v (ix2 s j) from
    eq_of_forall_ge_iff fun b => by
      simp only [fold_le]
      rw [← hv b, forall_comm]]
  pointwise [k0_pay8]

/-! ## The search and the words -/

/-- A step of the search on the vectors of one element the kernel holds. -/
def vstep (x : FVec Ideal S1x1 .f32) (w : IVec S1x1 32) (b : BitVec 32) : IVec S1x1 32 :=
  select (cmpf .olt x (bitcastToFloat .f32 (addi w (broadcast S1x1 b)))) w (addi w (broadcast S1x1 b))

theorem vstep_eq (x : FVec Ideal S1x1 .f32) (w : IVec S1x1 32) (b : BitVec 32) :
    vstep x w b (ix2 0 0) = step (x (ix2 0 0)) (w (ix2 0 0)) b := by
  unfold step
  pointwise [vstep]

/-- The exponent word on the vectors of one element the kernel holds. -/
def vexpo (w : IVec S1x1 32) : IVec S1x1 32 :=
  select (cmpi .eq (andi (shrsi w (broadcast S1x1 23#32)) (broadcast S1x1 255#32)) (broadcast S1x1 0#32)) (broadcast S1x1 0#32)
    (subi (andi (shrsi w (broadcast S1x1 23#32)) (broadcast S1x1 255#32)) (broadcast S1x1 126#32))

theorem vexpo_eq (w : IVec S1x1 32) : vexpo w (ix2 0 0) = expoWord (w (ix2 0 0)) := by
  unfold expoWord
  pointwise [vexpo]

/-- The eight steps. -/
def vsearch (x : FVec Ideal S1x1 .f32) : IVec S1x1 32 :=
  vstep x (vstep x (vstep x (vstep x (vstep x (vstep x (vstep x (vstep x (broadcast S1x1 0#32) 1073741824#32) 536870912#32)
    268435456#32) 134217728#32) 67108864#32) 33554432#32) 16777216#32) 8388608#32

theorem vsearch_eq (x : FVec Ideal S1x1 .f32) : vsearch x (ix2 0 0) = search (x (ix2 0 0)) := by
  unfold vsearch search
  simp only [vstep_eq]
  rfl

theorem pay4_eq (v : Vec Ideal S8x1152 .f32) :
    k0_pay4 (F := Ideal) v = vstep (k0_pay3 v) (vstep (k0_pay3 v) (vstep (k0_pay3 v) (vstep (k0_pay3 v) (vstep (k0_pay3 v)
      (vstep (k0_pay3 v) (vstep (k0_pay3 v) (broadcast S1x1 0#32) 1073741824#32) 536870912#32)
    268435456#32) 134217728#32) 67108864#32) 33554432#32) 16777216#32 := by
  unfold k0_pay4
  generalize k0_pay3 (F := Ideal) v = x
  rfl

theorem pay9_eq (v : Vec Ideal S16x4608 .bf16) :
    k0_pay9 (F := Ideal) v = vstep (k0_pay8 v) (vstep (k0_pay8 v) (vstep (k0_pay8 v) (vstep (k0_pay8 v)
      (broadcast S1x1 0#32) 1073741824#32) 536870912#32) 268435456#32) 134217728#32 := by
  unfold k0_pay9
  generalize k0_pay8 (F := Ideal) v = x
  rfl

/-- The exponent word of the first ratio. -/
theorem wordX_eq (v : Vec Ideal S8x1152 .f32) :
    k0_pay7 (F := Ideal) (k0_pay3 v) (k0_pay4 v) (k0_pay5 v) (k0_pay6 v) = vexpo (vsearch (k0_pay3 v)) := by
  unfold k0_pay6 k0_pay5 vsearch
  rw [← pay4_eq]
  generalize k0_pay4 (F := Ideal) v = w
  generalize k0_pay3 (F := Ideal) v = x
  rfl

/-- The rows of the array below the first, from the two exponent words. -/
def rest (wx wy : IVec S1x1 32) : IVec S8x128 32 :=
  select (cmpi .eq (iota .tc S8x128 32 [0] iota_S8x128_d0_w32) (broadcast S8x128 1#32))
    (broadcastTo S8x128 (shapeCast S1x1 wy shapeCasts_S1x1_S1x1) broadcasts_S1x1_S8x128)
    (select (cmpi .eq (iota .tc S8x128 32 [0] iota_S8x128_d0_w32) (broadcast S8x128 2#32))
      (broadcastTo S8x128 (shapeCast S1x1 (subi (broadcast S1x1 0#32) wx) shapeCasts_S1x1_S1x1) broadcasts_S1x1_S8x128)
      (broadcastTo S8x128 (shapeCast S1x1 (subi (broadcast S1x1 0#32) wy) shapeCasts_S1x1_S1x1) broadcasts_S1x1_S8x128))

theorem pay13_eq (wx : IVec S1x1 32) (v : Vec Ideal S16x4608 .bf16) :
    k0_pay13 (F := Ideal) wx (k0_pay8 v) (k0_pay9 v) (k0_pay10 v) (k0_pay11 v) = rest wx (vexpo (vsearch (k0_pay8 v))) := by
  unfold k0_pay11 k0_pay10 vsearch
  rw [← pay9_eq]
  generalize k0_pay9 (F := Ideal) v = w
  generalize k0_pay8 (F := Ideal) v = x
  rfl

/-- A row of the array as a power of two. -/
theorem mix_eq (wx wy : IVec S1x1 32) (i : Fin 8) (l : Fin 128) :
    k0_pay2 (F := Ideal) k0_pay12 (rest wx wy) (k0_pay14 wx) (ix2 i l)
      = powWord (if i.val = 0 then wx (ix2 0 0) else if i.val = 1 then wy (ix2 0 0)
          else if i.val = 2 then IntOp.subi 0#32 (wx (ix2 0 0)) else IntOp.subi 0#32 (wy (ix2 0 0))) := by
  unfold powWord
  pointwise [k0_pay2, k0_pay12, k0_pay14, rest]
  congr 3
  generalize IntOp.subi 0#32 (wx (ix2 0 0)) = a
  generalize IntOp.subi 0#32 (wy (ix2 0 0)) = b
  generalize wx (ix2 0 0) = c
  generalize wy (ix2 0 0) = d
  fin_cases i <;> rfl

/-- The array the last point writes. -/
theorem out_eq {vx : Vec Ideal S8x1152 .f32} (hx : ∀ b, (∀ s j, vx (ix2 s j) ≤ b) ↔ I.topX ≤ b)
    {vy : Vec Ideal S16x4608 .bf16} (hy : ∀ b, (∀ s j, vy (ix2 s j) ≤ b) ↔ I.topY ≤ b)
    (hX : I.ratioX < level 253) (hY : I.ratioY < level 253) (i : Fin 8) (l : Fin 128) :
    k0_pay2 (F := Ideal) k0_pay12
      (k0_pay13 (k0_pay7 (k0_pay3 vx) (k0_pay4 vx) (k0_pay5 vx) (k0_pay6 vx)) (k0_pay8 vy) (k0_pay9 vy) (k0_pay10 vy) (k0_pay11 vy))
      (k0_pay14 (k0_pay7 (k0_pay3 vx) (k0_pay4 vx) (k0_pay5 vx) (k0_pay6 vx))) (ix2 i l) = I.out i := by
  rw [wordX_eq, pay13_eq, mix_eq]
  simp only [vexpo_eq, vsearch_eq, ratioX_eq I hx, ratioY_eq I hy]
  unfold Ins.out
  split_ifs
  · exact scale_eq hX
  · exact scale_eq hY
  · exact inv_eq hX
  · exact inv_eq hY

end Cert.ScalesIdeal.Point

end
-- ==== Proof.ScalesValue.lean ====
/- The array the pass that finds the two scales leaves: the two maxima carried over the 24 grid points are the maxima over
   all rows, and the last point turns them into the scales and their inverses. -/
module

public import proofs.«01_k».proof.Proof.ScalesPoint
public import proofs.«01_k».proof.Proof.Gen.ScalesIdeal.Value
public import Idealize.ShloMosaic.Lib.Pipeline.ValueKit
public import Idealize.ShloMosaic.Lib.Pipeline.ReadBack

@[expose] public section

set_option maxRecDepth 16384

noncomputable section

namespace Cert.ScalesIdeal.Arrays

open Cert.ScalesIdeal Cert.ScalesIdeal.Gen Idealize.ShloMosaic Idealize.ShloMosaic.TcCoe Idealize.SL.Sem Cert.ScaleSpec Cert.Exponent
open Idealize.ShloMosaic.Pipeline (Dat)
open Cert.ScalesIdeal.Point (at8 at16)

variable (m : (ℓ : Loc nD τ sig) → Buf (Elt Ideal) ℓ) (c : Dev nD)

/-! ## Which part of its array each block is -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel

theorem row_lt (t : Fin cfg0.N) (i : Fin 1024) : t.val * 1024 + i.val < 24576 := by
  have := t.isLt
  have h : cfg0.N = 24 := N_0
  have := i.isLt
  omega

/-- The array row that row `i` of block `t` is. -/
def row (t : Fin cfg0.N) (i : Fin 1024) : Fin 24576 := ⟨t.val * 1024 + i.val, row_lt t i⟩

/-- The inputs the three arrays hold when the grid starts. -/
abbrev ins : Ins where
  X := fun q k => V m c main_v0 (ix2 q k)
  G := fun j => V m c main_v2 (ix2 0 j)
  DY := fun q o => V m c main_v1 (ix2 q o)

theorem x_eq (t : Fin cfg0.N) (i : Fin 1024) (k : Fin 1152) : iblk m c 0 t (ix2 i k) = (ins m c).X (row t i) k := by
  unfold row
  blk_ext! [iblk, idx0 t]

theorem g_eq (t : Fin cfg0.N) (j : Fin 1152) : iblk m c 1 t (ix2 0 j) = (ins m c).G j := by
  blk_ext! [iblk, idx1 t]

theorem y_eq (t : Fin cfg0.N) (i : Fin 1024) (o : Fin 4608) : iblk m c 2 t (ix2 i o) = (ins m c).DY (row t i) o := by
  unfold row
  blk_ext! [iblk, idx2 t]

/-! ## The running maxima -/

/-- The maximum a grid point takes in at row `s`, column `j` of the first running maximum. -/
def blockX (t : Fin cfg0.N) (s : Fin 8) (j : Fin 1152) : EReal :=
  Finset.univ.fold max start fun i : Fin 128 => mag ((ins m c).xn (row t (at8 i s)) j)

/-- The maximum a grid point takes in at row `s`, column `o` of the second running maximum. -/
def blockY (t : Fin cfg0.N) (s : Fin 16) (o : Fin 4608) : EReal :=
  Finset.univ.fold max start fun i : Fin 64 => mag ((ins m c).DY (row t (at16 i s)) o)

/-- The point before `t` is a point. -/
theorem pred_lt (t : Fin cfg0.N) : t.val - 1 < cfg0.N := Nat.lt_of_le_of_lt (Nat.sub_le _ _) t.isLt

theorem x_first (t : Fin cfg0.N) (h0 : t.val % 24 = 0) (s : Fin 8) (j : Fin 1152) :
    (outsAt0 m c t.val t.isLt).2.1 (ix2 s j) = max 0 (blockX m c t s j) := by
  rw [outsAt0_A m c t h0 (by omega)]
  frame_out
  refine (Point.stepX_eq _ (row t) (x_eq m c t) (g_eq m c t) _ s j).trans ?_
  rw [Point.zeroX_eq]
  rfl

theorem x_next (t : Fin cfg0.N) (h0 : ¬t.val % 24 = 0) (s : Fin 8) (j : Fin 1152) :
    (outsAt0 m c t.val t.isLt).2.1 (ix2 s j)
      = max ((outsAt0 m c (t.val - 1) (pred_lt t)).2.1 (ix2 s j)) (blockX m c t s j) := by
  by_cases h1 : t.val % 24 = 23
  · rw [outsAt0_C m c t h0 h1]
    frame_out
    rw [read_unread_whole]
    exact Point.stepX_eq _ (row t) (x_eq m c t) (g_eq m c t) _ s j
  · rw [outsAt0_B m c t h0 h1]
    frame_out
    rw [read_unread_whole]
    exact Point.stepX_eq _ (row t) (x_eq m c t) (g_eq m c t) _ s j

theorem y_first (t : Fin cfg0.N) (h0 : t.val % 24 = 0) (s : Fin 16) (o : Fin 4608) :
    (outsAt0 m c t.val t.isLt).2.2 (ix2 s o) = max 0 (blockY m c t s o) := by
  rw [outsAt0_A m c t h0 (by omega)]
  frame_out
  refine (Point.stepY_eq _ (row t) (y_eq m c t) _ s o).trans ?_
  rw [Point.zeroY_eq]
  rfl

theorem y_next (t : Fin cfg0.N) (h0 : ¬t.val % 24 = 0) (s : Fin 16) (o : Fin 4608) :
    (outsAt0 m c t.val t.isLt).2.2 (ix2 s o)
      = max ((outsAt0 m c (t.val - 1) (pred_lt t)).2.2 (ix2 s o)) (blockY m c t s o) := by
  by_cases h1 : t.val % 24 = 23
  · rw [outsAt0_C m c t h0 h1]
    frame_out
    rw [read_unread_whole]
    exact Point.stepY_eq _ (row t) (y_eq m c t) _ s o
  · rw [outsAt0_B m c t h0 h1]
    frame_out
    rw [read_unread_whole]
    exact Point.stepY_eq _ (row t) (y_eq m c t) _ s o

/-- A maximum carried over the grid from zero is at most `b` when all that was taken in so far is. -/
theorem carried_le (f : (n : ℕ) → n < cfg0.N → EReal) (g : Fin cfg0.N → EReal)
    (hfirst : ∀ t : Fin cfg0.N, t.val % 24 = 0 → f t.val t.isLt = max 0 (g t))
    (hnext : ∀ t : Fin cfg0.N, ¬t.val % 24 = 0 → f t.val t.isLt = max (f (t.val - 1) (pred_lt t)) (g t)) (b : EReal) :
    ∀ (n : ℕ) (h : n < cfg0.N), f n h ≤ b ↔ 0 ≤ b ∧ ∀ t : Fin cfg0.N, t.val ≤ n → g t ≤ b
  | 0, h => by
    rw [hfirst ⟨0, h⟩ (Nat.zero_mod _), max_le_iff]
    refine and_congr_right fun _ => ⟨fun hg t ht => ?_, fun hg => hg _ le_rfl⟩
    obtain rfl : t = ⟨0, h⟩ := Fin.ext (Nat.le_zero.1 ht)
    exact hg
  | n + 1, h => by
    have hN : cfg0.N = 24 := N_0
    rw [hnext ⟨n + 1, h⟩ (by dsimp only; omega), max_le_iff]
    have ih := carried_le f g hfirst hnext b n (Nat.lt_of_succ_lt h)
    refine (and_congr_left' ih).trans ⟨fun ⟨⟨h0, hp⟩, hl⟩ => ⟨h0, fun t ht => ?_⟩, fun ⟨h0, hp⟩ => ⟨⟨h0, fun t ht => hp t (by omega)⟩, hp _ le_rfl⟩⟩
    rcases Nat.lt_or_ge t.val (n + 1) with hlt | hge
    · exact hp t (by omega)
    · obtain rfl : t = ⟨n + 1, h⟩ := Fin.ext (le_antisymm ht hge)
      exact hl

/-- Every row is a row of some block. -/
theorem row_surj (q : Fin 24576) : ∃ (t : Fin cfg0.N) (i : Fin 1024), row t i = q := by
  have hN : cfg0.N = 24 := N_0
  have := q.isLt
  refine ⟨⟨q.val / 1024, by omega⟩, ⟨q.val % 1024, by omega⟩, Fin.ext ?_⟩
  show q.val / 1024 * 1024 + q.val % 1024 = q.val
  omega

/-- After the last point the first maximum is the one over all rows. -/
theorem x_last (t : Fin cfg0.N) (ht : t.val = 23) (b : EReal) :
    (∀ s j, (outsAt0 m c t.val t.isLt).2.1 (ix2 s j) ≤ b) ↔ (ins m c).topX ≤ b := by
  have hN : cfg0.N = 24 := N_0
  have h : ∀ s j, (outsAt0 m c t.val t.isLt).2.1 (ix2 s j) ≤ b ↔ _ := fun s j =>
    carried_le (fun n h => (outsAt0 m c n h).2.1 (ix2 s j)) (fun t => blockX m c t s j)
      (fun t h0 => x_first m c t h0 s j) (fun t h0 => x_next m c t h0 s j) b t.val t.isLt
  simp only [h, blockX, fold_le]
  rw [Ins.topX_le]
  constructor
  · intro h q j
    obtain ⟨t', i, rfl⟩ := row_surj q
    have := (h ⟨i.val % 8, by omega⟩ j).2 t' (by omega) ⟨i.val / 8, by omega⟩
    rwa [show at8 ⟨i.val / 8, by omega⟩ ⟨i.val % 8, by omega⟩ = i from Fin.ext (Nat.div_add_mod' i.val 8)] at this
  · intro h s j
    exact ⟨(mag_nonneg _).trans (h ⟨0, by norm_num⟩ j), fun t' _ i => h _ _⟩

/-- After the last point the second maximum is the one over all rows. -/
theorem y_last (t : Fin cfg0.N) (ht : t.val = 23) (b : EReal) :
    (∀ s o, (outsAt0 m c t.val t.isLt).2.2 (ix2 s o) ≤ b) ↔ (ins m c).topY ≤ b := by
  have hN : cfg0.N = 24 := N_0
  have h : ∀ s o, (outsAt0 m c t.val t.isLt).2.2 (ix2 s o) ≤ b ↔ _ := fun s o =>
    carried_le (fun n h => (outsAt0 m c n h).2.2 (ix2 s o)) (fun t => blockY m c t s o)
      (fun t h0 => y_first m c t h0 s o) (fun t h0 => y_next m c t h0 s o) b t.val t.isLt
  simp only [h, blockY, fold_le]
  rw [Ins.topY_le]
  constructor
  · intro h q o
    obtain ⟨t', i, rfl⟩ := row_surj q
    have := (h ⟨i.val % 16, by omega⟩ o).2 t' (by omega) ⟨i.val / 16, by omega⟩
    rwa [show at16 ⟨i.val / 16, by omega⟩ ⟨i.val % 16, by omega⟩ = i from Fin.ext (Nat.div_add_mod' i.val 16)] at this
  · intro h s o
    exact ⟨(mag_nonneg _).trans (h ⟨0, by norm_num⟩ o), fun t' _ i => h _ _⟩

/-! ## The array after the run -/

/-- The last point writes the scales and their inverses. -/
theorem out_last (hX : (ins m c).ratioX < level 253) (hY : (ins m c).ratioY < level 253) (t : Fin cfg0.N) (ht : t.val = 23)
    (i : Fin 8) (l : Fin 128) : (outsAt0 m c t.val t.isLt).1 (ix2 i l) = (ins m c).out i := by
  have hx := x_last m c t ht
  have hy := y_last m c t ht
  rw [outsAt0_C m c t (by omega) (by omega)] at hx hy ⊢
  revert hx hy
  frame_out
  intro hx hy
  exact Point.out_eq _ hx hy hX hY i l

theorem emb3 (t : Fin cfg0.N) (i : Fin 8) (l : Fin 128) : (win0_3.blk t).view.emb (ix2 i l) = (ix2 i l : S8x128.Idx) := by
  blk_ext [idx3 t]

/-- The scales. -/
theorem arr3 (hX : (ins m c).ratioX < level 253) (hY : (ins m c).ratioY < level 253) :
    (dats m 0 c).arrAt 3 cfg0.N = fun i => (ins m c).out (i 0) := by
  refine (dats m 0 c).arrAt_eq_of_covers 3 _ (by decide +kernel) fun t hf y => ?_
  have ht : t.val = 23 := (by decide +kernel : ∀ t : Fin cfg0.N, (cfg0.win 3).flush t = true → t.val = 23) t hf
  blk_simp
  rw [after0_3]
  idx_vars y
  rw [out_last m c hX hY t ht, emb3]
  rfl

end Cert.ScalesIdeal.Arrays

end
-- ==== Proof.ScalesRefPoint.lean ====
/- The array the reference of the pass that finds the two scales leaves, in the words of ScalesSpec.lean. -/
module

public import proofs.«01_k».proof.Proof.ScalesSpec
public import proofs.«01_k».proof.Proof.Gen.ScalesReferenceIdeal.Skeleton

@[expose] public section

set_option maxRecDepth 16384

noncomputable section

namespace Cert.ScalesReferenceIdeal.Point

open Cert.ScalesReferenceIdeal Cert.ScalesReferenceIdeal.Gen Idealize.ShloMosaic Cert.ScaleSpec Cert.Exponent

variable (x0 : Vec Ideal S24576x1152 .bf16) (x1 : Vec Ideal S1x1152 .f32) (x2 : Vec Ideal S24576x4608 .bf16)

/-- The inputs the three arrays hold. -/
abbrev ins : Ins where
  X := fun q k => x0 (ix2 q k)
  G := fun j => x1 (ix2 0 j)
  DY := fun q o => x2 (ix2 q o)

/-- The first ratio, zero when it is below the least normal number. -/
theorem flushX_eq : k0_pay3 (F := Ideal) x0 x1 (ix2 0 0) = flush (ins x0 x1 x2).ratioX := by
  pointwise [k0_pay3, flush, Ins.ratioX, Ins.topX, Ins.xn, Ins.r]

/-! ## The least power of two above, on the vectors the reference holds -/

/-- The exponents tried. -/
def vtrial : FVec Ideal S1x256 .f32 :=
  subf (sitofp .f32 (iota .tc S1x256 32 [1] iota_S1x256_d1_w32)) (broadcast S1x256 (Scalar.ofBits .f32 0x42FE0000#32))

/-- The exponents whose power of two is above the ratio; the others stand at +inf. -/
def vcand (a : FVec Ideal S1x1 .f32) (t : FVec Ideal S1x256 .f32) : FVec Ideal S1x256 .f32 :=
  select (cmpf .olt (broadcastTo S1x256 a broadcasts_S1x1_S1x256) (exp2 t)) t (broadcast S1x256 (Scalar.ofBits .f32 0x7F800000#32))

/-- The least. -/
def vmin (v : FVec Ideal S1x256 .f32) : FVec Ideal S1x1 .f32 :=
  shapeCast S1x1 (multiReduction .minimumf [1] S1 v 0x7F800000#32 reduces_S1x256_S1 (.inl rfl) rfl) shapeCasts_S1_S1x1

theorem vtrial_eq (k : Fin 256) : vtrial (ix2 0 k) = trial k := by
  unfold trial
  pointwise [vtrial]

theorem vcand_eq (a : FVec Ideal S1x1 .f32) (t : FVec Ideal S1x256 .f32) (k : Fin 256) :
    vcand a t (ix2 0 k) = if a (ix2 0 0) < FloatOps.exp2 (F := Ideal) (φ := .f32) (t (ix2 0 k)) then t (ix2 0 k)
      else Ideal.ofBits .f32 2139095040#32 := by
  pointwise [vcand]

theorem vmin_eq (v : FVec Ideal S1x256 .f32) :
    vmin v (ix2 0 0) = Finset.univ.fold min (Ideal.ofBits .f32 2139095040#32) fun k : Fin 256 => v (ix2 0 k) := by
  pointwise [vmin]

theorem pay5_eq (a b : FVec Ideal S1x1 .f32) :
    k0_pay5 (F := Ideal) a b (Scalar.ofBits .f32 0x00000000#32) (ix2 0 0) = if a (ix2 0 0) = 0 then 0 else b (ix2 0 0) := by
  pointwise [k0_pay5]

/-- The exponent, from a ratio already flushed. -/
theorem expo_eq (a b : FVec Ideal S1x1 .f32) (x : EReal) (ha : a (ix2 0 0) = flush x) (hb : b = vmin (vcand a vtrial)) :
   (if a (ix2 0 0) = 0 then 0 else b (ix2 0 0)) = expo x := by
  subst hb
  unfold expo
  simp only [vmin_eq, vcand_eq, vtrial_eq, ha]

/-- The exponent of the first ratio. -/
theorem expoX_eq : k0_pay5 (F := Ideal) (k0_pay3 x0 x1) (k0_pay4 x0 x1) (Scalar.ofBits .f32 0x00000000#32) (ix2 0 0)
    = expo (ins x0 x1 x2).ratioX := by
  rw [pay5_eq]
  refine expo_eq _ _ _ (flushX_eq x0 x1 x2) ?_
  unfold k0_pay4
  generalize k0_pay3 (F := Ideal) x0 x1 = a
  rfl

/-- The second ratio. -/
def vratioY (v : FVec Ideal S24576x4608 .f32) : FVec Ideal S1x1 .f32 :=
  mulf (broadcast S1x1 (extractAt ![0, 0, 0] (shapeCast S1x1x1 (multiReduction .maximumf [1, 2] S1
    (shapeCast S1x24576x4608 (absf v) shapeCasts_S24576x4608_S1x24576x4608) 0xFF800000#32 reduces_S1x24576x4608_S1 (.inl rfl) rfl)
    shapeCasts_S1_S1x1x1) inpos_S1x1x1_p0_0_0)) (broadcast S1x1 (Scalar.ofBits .f32 0x37924925#32))

/-- A ratio, zero when it is below the least normal number. -/
def vflush (a : FVec Ideal S1x1 .f32) : FVec Ideal S1x1 .f32 :=
  select (cmpf .olt a (broadcast S1x1 (Scalar.ofBits .f32 0x00800000#32))) (broadcast S1x1 (Scalar.ofBits .f32 0x00000000#32)) a

theorem vflush_eq (a : FVec Ideal S1x1 .f32) : vflush a (ix2 0 0) = flush (a (ix2 0 0)) := by
  unfold flush
  pointwise [vflush]

theorem ratioY_eq : vratioY (k0_pay2 x2) (ix2 0 0) = (ins x0 x1 x2).ratioY := by
  pointwise [vratioY, k0_pay2, Ins.ratioY, Ins.topY]

theorem pay8_eq (v : FVec Ideal S24576x4608 .f32) :
    k0_pay8 (F := Ideal) v
      = k0_pay5 (vflush (vratioY v)) (vmin (vcand (vflush (vratioY v)) vtrial)) (Scalar.ofBits .f32 0x00000000#32) := by
  unfold k0_pay8
  extract_lets
  unfold k0_pay5 vmin vcand vtrial vflush vratioY
  rfl

/-- The exponent of the second ratio. -/
theorem expoY_eq : k0_pay8 (F := Ideal) (k0_pay2 x2) (ix2 0 0) = expo (ins x0 x1 x2).ratioY := by
  rw [pay8_eq, pay5_eq]
  refine expo_eq _ _ _ ?_ rfl
  rw [vflush_eq, ratioY_eq x0 x1 x2]

theorem pay6_eq (a b : FVec Ideal S1x1 .f32) (z : Ideal .f32) :
    k0_pay6 (F := Ideal) a b z (ix2 0 0) = FloatOps.exp2 (F := Ideal) (φ := .f32) (k0_pay5 a b z (ix2 0 0)) := rfl

theorem pay7_eq (a b : FVec Ideal S1x1 .f32) (z : Ideal .f32) :
    k0_pay7 (F := Ideal) a b z (ix2 0 0) = FloatOps.exp2 (F := Ideal) (φ := .f32) (0 - k0_pay5 a b z (ix2 0 0)) := by
  unfold k0_pay7
  generalize k0_pay5 (F := Ideal) a b z = e
  pointwise

theorem exp2_at (e : FVec Ideal S1x1 .f32) : exp2 e (ix2 0 0) = FloatOps.exp2 (F := Ideal) (φ := .f32) (e (ix2 0 0)) := rfl

theorem neg_at (e : FVec Ideal S1x1 .f32) : subf (broadcast S1x1 (Scalar.ofBits .f32 0x00000000#32)) e (ix2 0 0) = 0 - e (ix2 0 0) := by
  pointwise

theorem pay9_eq (v : FVec Ideal S24576x4608 .f32) : k0_pay9 (F := Ideal) v = exp2 (k0_pay8 v) := rfl

theorem pay10_eq (v : FVec Ideal S24576x4608 .f32) :
    k0_pay10 (F := Ideal) v = exp2 (subf (broadcast S1x1 (Scalar.ofBits .f32 0x00000000#32)) (k0_pay8 v)) := rfl

/-- The rows of the array, from the two scales and their inverses. -/
theorem rows_eq (a c b d : FVec Ideal S1x1 .f32) (i : Fin 8) (l : Fin 128) :
    k0_pay1 (F := Ideal) a c b d (iota .tc S8x128 32 [0] iota_S8x128_d0_w32) k0_pay11 k0_pay12 k0_pay13 (ix2 i l)
      = if i.val = 0 then a (ix2 0 0) else if i.val = 1 then b (ix2 0 0) else if i.val = 2 then c (ix2 0 0) else d (ix2 0 0) := by
  pointwise [k0_pay1, k0_pay11, k0_pay12, k0_pay13]
  generalize a (ix2 0 0) = a'
  generalize b (ix2 0 0) = b'
  generalize c (ix2 0 0) = c'
  generalize d (ix2 0 0) = d'
  fin_cases i <;> rfl

/-- The array the reference writes. -/
theorem out_eq (i : Fin 8) (l : Fin 128) :
    k0_pay1 (F := Ideal) (k0_pay6 (k0_pay3 x0 x1) (k0_pay4 x0 x1) (Scalar.ofBits .f32 0x00000000#32))
      (k0_pay7 (k0_pay3 x0 x1) (k0_pay4 x0 x1) (Scalar.ofBits .f32 0x00000000#32)) (k0_pay9 (k0_pay2 x2)) (k0_pay10 (k0_pay2 x2))
      (iota .tc S8x128 32 [0] iota_S8x128_d0_w32) k0_pay11 k0_pay12 k0_pay13 (ix2 i l)
      = (ins x0 x1 x2).out i := by
  rw [rows_eq, pay6_eq, pay7_eq, pay9_eq, pay10_eq, exp2_at, exp2_at, neg_at, expoX_eq x0 x1 x2, expoY_eq x0 x1 x2]
  rfl

end Cert.ScalesReferenceIdeal.Point

end
-- ==== Proof.ScalesRefValue.lean ====
/- The array the reference of the pass that finds the two scales leaves, in the words of ScalesSpec.lean. -/
module

public import proofs.«01_k».proof.Proof.ScalesRefPoint
public import proofs.«01_k».proof.Proof.Gen.ScalesReferenceIdeal.Value
public import Idealize.ShloMosaic.Lib.Pipeline.ValueKit

@[expose] public section

set_option maxRecDepth 16384

noncomputable section

namespace Cert.ScalesReferenceIdeal.Arrays

open Cert.ScalesReferenceIdeal Cert.ScalesReferenceIdeal.Gen Idealize.ShloMosaic Idealize.ShloMosaic.TcCoe Idealize.SL.Sem Cert.ScaleSpec
open Idealize.ShloMosaic.Pipeline (Dat)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

/-- The inputs the three arrays hold when the body starts. -/
abbrev ins : Ins where
  X := fun q k => V m c main_v0 (ix2 q k)
  G := fun j => V m c main_v1 (ix2 0 j)
  DY := fun q o => V m c main_v2 (ix2 q o)

theorem blk0 (t : Fin cfg0.N) (a : Fin 24576) (b : Fin 1152) : iblk m c 0 t (ix2 a b) = V m c main_v0 (ix2 a b) := by
  blk_ext! [iblk, idx0 t]
theorem blk1 (t : Fin cfg0.N) (a : Fin 1) (b : Fin 1152) : iblk m c 1 t (ix2 a b) = V m c main_v1 (ix2 a b) := by
  blk_ext! [iblk, idx1 t]
theorem blk2 (t : Fin cfg0.N) (a : Fin 24576) (b : Fin 4608) : iblk m c 2 t (ix2 a b) = V m c main_v2 (ix2 a b) := by
  blk_ext! [iblk, idx2 t]

/-- The blocks of the one grid point are the whole arrays. -/
theorem ins_eq (t : Fin cfg0.N) : Point.ins (iblk m c 0 t) (iblk m c 1 t) (iblk m c 2 t) = ins m c := by
  simp only [Point.ins, ins, blk0, blk1, blk2]

section Parts

variable (x0 : Vec Ideal S24576x1152 .bf16) (x1 : Vec Ideal S1x1152 .f32) (x2 : Vec Ideal S24576x4608 .bf16)

theorem pay14_eq : k0_pay14 (F := Ideal) x0 x1 x2 = k0_pay2 x2 := by
  unfold k0_pay14
  frame_out
theorem pay15_eq : k0_pay15 (F := Ideal) x0 x1 x2 = k0_pay3 x0 x1 := by
  unfold k0_pay15
  frame_out
theorem pay16_eq : k0_pay16 (F := Ideal) x0 x1 x2 = k0_pay4 x0 x1 := by
  unfold k0_pay16
  frame_out

end Parts

/-- The scales. -/
theorem arr3 : (dats m 0 c).arrAt 3 cfg0.N = fun i => (ins m c).out (i 0) := by
  refine (dats m 0 c).arrAt_eq_of_after_last 3 t0_0 (by decide +kernel) _ fun j => ?_
  blk_simp
  rw [after0_3]
  frame_out
  rw [← ins_eq m c t0_0]
  rw [pay14_eq, pay15_eq, pay16_eq]
  exact (congrArg _ (eq_ix2 j)).trans (Point.out_eq _ _ _ (j 0) (j 1))

end Cert.ScalesReferenceIdeal.Arrays

end
-- ==== Proof.ScalesAgree.lean ====
/- Memories that agree on the arguments give the two programs of the scales the same inputs, and the precondition bounds
   the two ratios. -/
module

public import proofs.«01_k».proof.Defs
public import proofs.«01_k».proof.Proof.ScalesValue
public import proofs.«01_k».proof.Proof.ScalesRefValue
public import Idealize.ShloMosaic.Lib.ReduceAll

@[expose] public section

set_option maxRecDepth 16384

noncomputable section

namespace Cert.ScalesAgree

open Idealize.ShloMosaic Idealize.ShloMosaic.TcCoe Idealize.SL.Sem Cert.ScaleSpec Cert.Exponent

/-- The inputs as functions of the three arguments. -/
abbrev ofArgs (a0 : Vec Ideal Cert.ScalesIdeal.S24x1024x1152 .bf16) (a1 : Vec Ideal Cert.ScalesIdeal.S1152 .f32)
    (a2 : Vec Ideal Cert.ScalesIdeal.S24x1024x4608 .bf16) : Ins where
  X := fun q k => shapeCast Cert.ScalesIdeal.S24576x1152 a0 (by decide) (ix2 q k)
  G := fun j => a1 (ix1 j)
  DY := fun q o => shapeCast Cert.ScalesIdeal.S24576x4608 a2 (by decide) (ix2 q o)

/-- The two scales and their inverses, as an array. -/
def arr (I : Ins) : Vec Ideal Cert.ScalesIdeal.S8x128 .f32 := fun i => I.out (i 0)

/-! ## The precondition -/

theorem facts : Cert.Pre_finite.Facts where
  bcast_S_S1152 := by decide
  reducesTo_S1152_S_d0 := by decide
  h_S_ := by decide
  bitsLt_bf16_f32 := by decide
  bcast_S_S24x1024x4608 := by decide
  reducesTo_S24x1024x4608_S_d0_1_2 := by decide

section Pre

variable (a0 : Vec Ideal Cert.ScalesIdeal.S24x1024x1152 .bf16) (a1 : Vec Ideal Cert.ScalesIdeal.S1152 .f32)
  (a2 : Vec Ideal Cert.ScalesIdeal.S24x1024x4608 .bf16)

/-- A comparison that came out 1 is the comparison of the two values. -/
theorem le_of_ole {x : EReal} (h : FloatOps.cmpf (F := Ideal) (φ := .f32) .ole (max x (-x)) Ins.largest = 1#1) : mag x ≤ Ins.largest := by
  by_contra hn
  have h : Ideal.cmp .ole (mag x) Ins.largest = 1#1 := h
  simp [Ideal.cmp, hn] at h

theorem finite_of (h : @Cert.Pre_finite.fn facts Ideal _ a0 a1 a2 = fun _ => 1#1) :
    (∀ j, mag ((ofArgs a0 a1 a2).G j) ≤ Ins.largest) ∧ ∀ q o, mag ((ofArgs a0 a1 a2).DY q o) ≤ Ins.largest := by
  have h := congrFun h (fun a => a.elim0)
  dsimp only [Cert.Pre_finite.fn] at h
  obtain ⟨hg, hy⟩ := IntOp.andi_eq_one.1 h
  have : Subsingleton Cert.Pre_finite.S_.Idx := ⟨fun a b => funext fun k => k.elim0⟩
  refine ⟨fun j => ?_, fun q o => ?_⟩
  · have := Host.reduce_andi_all _ _ _ _ _ hg (ix1 j)
    exact le_of_ole this
  · have := Host.reduce_andi_all _ _ _ _ _ hy
    exact le_of_ole (this _)

end Pre

section Kernel
open Cert.ScalesIdeal Cert.ScalesIdeal.Gen

variable (m : (ℓ : Loc nD τ sig) → Buf (Elt Ideal) ℓ) (c : Dev nD)

/-- The kernel's inputs. -/
theorem kernel : Cert.ScalesIdeal.Arrays.ins m c
    = ofArgs (m ((c : Thread nD τ).loc main_arg0)) (m ((c : Thread nD τ).loc main_arg1)) (m ((c : Thread nD τ).loc main_arg2)) := by
  have hg : ∀ j : Fin 1152, V m c main_v2 (ix2 0 j) = m ((c : Thread nD τ).loc main_arg1) (ix1 j) := fun j => by
    entry_read
    pointwise
  have hx : V m c main_v0 = shapeCast S24576x1152 (m ((c : Thread nD τ).loc main_arg0)) (shapeCasts_S24x1024x1152_S24576x1152) := by
    entry_read
    rfl
  have hy : V m c main_v1 = shapeCast S24576x4608 (m ((c : Thread nD τ).loc main_arg2)) (shapeCasts_S24x1024x4608_S24576x4608) := by
    entry_read
    rfl
  simp only [Cert.ScalesIdeal.Arrays.ins, ofArgs, hg, hx, hy]

/-- The array the kernel leaves, when gamma and dy are finite. -/
theorem k3 (h : @Cert.Pre_finite.fn facts Ideal _ (m ((c : Thread nD τ).loc main_arg0)) (m ((c : Thread nD τ).loc main_arg1))
      (m ((c : Thread nD τ).loc main_arg2)) = fun _ => 1#1) :
    (dats m 0 c).arrAt 3 cfg0.N = arr (Cert.ScalesIdeal.Arrays.ins m c) := by
  obtain ⟨hG, hY⟩ := finite_of _ _ _ h
  rw [← kernel m c] at hG hY
  exact Cert.ScalesIdeal.Arrays.arr3 m c (Ins.ratioX_lt _ hG) (Ins.ratioY_lt _ hY)

end Kernel

section Reference
open Cert.ScalesReferenceIdeal Cert.ScalesReferenceIdeal.Gen

variable (m : (ℓ : Loc nD τ sig) → Buf (Elt Ideal) ℓ) (c : Dev nD)

/-- The reference's inputs. -/
theorem reference : Cert.ScalesReferenceIdeal.Arrays.ins m c
    = ofArgs (m ((c : Thread nD τ).loc main_arg0)) (m ((c : Thread nD τ).loc main_arg1)) (m ((c : Thread nD τ).loc main_arg2)) := by
  have hg : ∀ j : Fin 1152, V m c main_v1 (ix2 0 j) = m ((c : Thread nD τ).loc main_arg1) (ix1 j) := fun j => by
    entry_read
    pointwise
  have hx : V m c main_v0 = shapeCast S24576x1152 (m ((c : Thread nD τ).loc main_arg0)) (shapeCasts_S24x1024x1152_S24576x1152) := by
    entry_read
    rfl
  have hy : V m c main_v2 = shapeCast S24576x4608 (m ((c : Thread nD τ).loc main_arg2)) (shapeCasts_S24x1024x4608_S24576x4608) := by
    entry_read
    rfl
  simp only [Cert.ScalesReferenceIdeal.Arrays.ins, ofArgs, hg, hx, hy]

/-- The array the reference leaves. -/
theorem r3 : (dats m 0 c).arrAt 3 cfg0.N = arr (Cert.ScalesReferenceIdeal.Arrays.ins m c) :=
  Cert.ScalesReferenceIdeal.Arrays.arr3 m c

end Reference

section Both

variable (m : (ℓ : Loc Cert.ScalesIdeal.nD Cert.ScalesIdeal.τ Cert.ScalesIdeal.sig) → Buf (Elt Ideal) ℓ)
  (m' : (ℓ : Loc Cert.ScalesReferenceIdeal.nD Cert.ScalesReferenceIdeal.τ Cert.ScalesReferenceIdeal.sig) → Buf (Elt Ideal) ℓ)
  (c : Dev Cert.ScalesIdeal.nD)

/-- The two memories hold the same arguments on this device. -/
abbrev Args : Prop :=
  m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
  ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
  ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)

/-- Equal arguments give equal inputs. -/
theorem ins (h : Args m m' c) : Cert.ScalesReferenceIdeal.Arrays.ins m' c = Cert.ScalesIdeal.Arrays.ins m c := by
  obtain ⟨h0, h1, h2⟩ := h
  rw [kernel m c, reference m' c]
  exact congr (congr (congrArg ofArgs h0) h1) h2

end Both

end Cert.ScalesAgree

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Scales
public import proofs.«01_k».proof.Proof.Gen.Scales.Frame
public import proofs.«01_k».proof.Proof.Gen.ScalesIdeal
public import proofs.«01_k».proof.Proof.Gen.ScalesIdeal.Frame
public import proofs.«01_k».proof.Proof.Gen.ScalesIdeal.Value
public import proofs.«01_k».proof.Proof.Gen.ScalesReferenceIdeal
public import proofs.«01_k».proof.Proof.Gen.ScalesReferenceIdeal.Frame
public import proofs.«01_k».proof.Proof.Gen.ScalesReferenceIdeal.Value
public import proofs.«01_k».proof.Proof.Agree
public import proofs.«01_k».proof.Proof.ScalesAgree
public import Idealize.ShloMosaic.Adequacy
public import Idealize.ShloMosaic.Init

@[expose] public section

noncomputable section

namespace Cert.Proof

open Idealize.ShloMosaic Idealize.SL.Sem Cert.Kernel

/-- The idealized kernel and the idealized reference end with the same five arrays. -/
theorem values :
    @algebraic_KernelIdeal_ReferenceIdeal Cert.KernelIdeal.Gen.facts Cert.ReferenceIdeal.Gen.facts := by
  intro m g m' g' _ hagree
  refine ⟨fun c => Cert.Agree.dx (Cert.KernelIdeal.Arrays.ins m c), fun c => Cert.Agree.dw (Cert.KernelIdeal.Arrays.ins m c),
    fun c => Cert.Agree.dgamma (Cert.KernelIdeal.Arrays.ins m c), fun c => Cert.Agree.xcode (Cert.KernelIdeal.Arrays.ins m c),
    fun c => Cert.Agree.ycode (Cert.KernelIdeal.Arrays.ins m c), ?_, ?_⟩
  · refine (θ_run _ _ _).mono (fun r h c => ?_) (Cert.KernelIdeal.Value.run_blocks (F := Ideal) m g)
    obtain ⟨h6, h7, h8, h9, h10, ha⟩ := h c
    exact ⟨h6.trans (Cert.Agree.k6 m c), h7.trans (Cert.Agree.k7 m c), h8.trans (Cert.Agree.k8 m c),
      h9.trans (Cert.Agree.k9 m c), h10.trans (Cert.Agree.k10 m c), ha⟩
  · refine (θ_run _ _ _).mono (fun r h c => ?_) (Cert.ReferenceIdeal.Value.run_blocks (F := Ideal) m' g')
    obtain ⟨h6, h7, h8, h9, h10, ha⟩ := h c
    have e := Cert.Agree.ins m m' c (hagree c)
    beta_reduce
    rw [← e]
    exact ⟨h6.trans (Cert.Agree.r6 m' c), h7.trans (Cert.Agree.r7 m' c), h8.trans (Cert.Agree.r8 m' c),
      h9.trans (Cert.Agree.r9 m' c), h10.trans (Cert.Agree.r10 m' c), ha⟩

/-- The idealized call of the scales and its idealized reference end with the same array, when gamma and dy are finite. -/
theorem scales : @algebraic_ScalesIdeal_ScalesReferenceIdeal_pre_finite Cert.ScalesIdeal.Gen.facts
    Cert.ScalesReferenceIdeal.Gen.facts Cert.ScalesAgree.facts := by
  intro m g m' g' hpre hagree
  refine ⟨fun c => Cert.ScalesAgree.arr (Cert.ScalesIdeal.Arrays.ins m c), ?_, ?_⟩
  · refine (θ_run _ _ _).mono (fun r h c => ?_) (Cert.ScalesIdeal.Value.run_blocks (F := Ideal) m g)
    obtain ⟨h3, ha⟩ := h c
    exact ⟨h3.trans (Cert.ScalesAgree.k3 m c (hpre c)), ha⟩
  · refine (θ_run _ _ _).mono (fun r h c => ?_) (Cert.ScalesReferenceIdeal.Value.run_blocks (F := Ideal) m' g')
    obtain ⟨h3, ha⟩ := h c
    have e := Cert.ScalesAgree.ins m m' c (hagree c)
    beta_reduce
    rw [← e]
    exact ⟨h3.trans (Cert.ScalesAgree.r3 m' c), ha⟩

theorem claim : Cert.Claim := ⟨Cert.Kernel.Gen.facts, Cert.KernelIdeal.Gen.facts, Cert.ReferenceIdeal.Gen.facts,
  Cert.Scales.Gen.facts, Cert.ScalesIdeal.Gen.facts, Cert.ScalesReferenceIdeal.Gen.facts, Cert.ScalesAgree.facts,
  fun m ρ _ => Cert.Kernel.Gen.frame m ρ, fun m ρ _ => Cert.KernelIdeal.Gen.frame m ρ,
  fun m ρ _ => Cert.ReferenceIdeal.Gen.frame m ρ, fun m ρ _ => Cert.Scales.Gen.frame m ρ,
  fun m ρ _ => Cert.ScalesIdeal.Gen.frame m ρ, fun m ρ _ => Cert.ScalesIdeal.Gen.frame m ρ,
  fun m ρ _ => Cert.ScalesReferenceIdeal.Gen.frame m ρ, fun m ρ _ => Cert.ScalesReferenceIdeal.Gen.frame m ρ,
  trivial, values, trivial, scales⟩

end Cert.Proof

end
